-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_index [hPre_sorted_index : Cert.Pre_sorted_index.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_index [hPre_sorted_index : Cert.Pre_sorted_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_index [hKernelIdeal : Cert.KernelIdeal.Facts] [hPre_sorted_index : Cert.Pre_sorted_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_index m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_index [hReferenceIdeal : Cert.ReferenceIdeal.Facts] [hPre_sorted_index : Cert.Pre_sorted_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_sorted_index [hKernelIdeal : Cert.KernelIdeal.Facts] [hReferenceIdeal : Cert.ReferenceIdeal.Facts] [hPre_sorted_index : Cert.Pre_sorted_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_index : Cert.Pre_sorted_index.Facts),
    quiescent_Kernel (hKernel := hKernel)
    ∧ quiescent_KernelIdeal (hKernelIdeal := hKernelIdeal)
    ∧ quiescent_KernelIdeal_pre_sorted_index (hKernelIdeal := hKernelIdeal) (hPre_sorted_index := hPre_sorted_index)
    ∧ quiescent_ReferenceIdeal (hReferenceIdeal := hReferenceIdeal)
    ∧ quiescent_ReferenceIdeal_pre_sorted_index (hReferenceIdeal := hReferenceIdeal) (hPre_sorted_index := hPre_sorted_index)
    ∧ preserves_Kernel_KernelIdeal
    ∧ algebraic_KernelIdeal_ReferenceIdeal_pre_sorted_index (hKernelIdeal := hKernelIdeal) (hReferenceIdeal := hReferenceIdeal) (hPre_sorted_index := hPre_sorted_index)
-- ==== Pre_sorted_index.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S49999 : Shape := ⟨1, ![49999]⟩

class Facts : Prop where
  slices_S50000_S49999_1 : S50000.Slices ![1] S49999
  slices_S50000_S49999_0 : S50000.Slices ![0] S49999

variable [Facts]

def fn {F : FTy → Type} [FloatOps F] (main_arg0 : FVec F S50000x256 .f32) (main_arg1 : IVec S50000 32) (main_arg2 : FVec F S256x256 .f32) (main_arg3 : FVec F S256 .f32) (main_arg4 : FVec F S256x1 .f32) (main_arg5 : FVec F S1 .f32) : IVec S49999 1 :=
  let main_v0 : IVec S49999 32 := (extractStridedSlice S49999 ![1] · slices_S50000_S49999_1) main_arg1
  let main_v1 : IVec S49999 32 := (extractStridedSlice S49999 ![0] · slices_S50000_S49999_0) main_arg1
  let main_v2 : IVec S49999 1 := cmpi .sge main_v0 main_v1
  main_v2
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S50176x256 : Shape := ⟨2, ![50176, 256]⟩
abbrev S50176 : Shape := ⟨1, ![50176]⟩
abbrev S50176x1 : Shape := ⟨2, ![50176, 1]⟩
abbrev S1x256 : Shape := ⟨2, ![1, 256]⟩
abbrev S1x1 : Shape := ⟨2, ![1, 1]⟩
abbrev S512x768 : Shape := ⟨2, ![512, 768]⟩
abbrev S1024x1 : Shape := ⟨2, ![1024, 1]⟩
abbrev S1024x256 : Shape := ⟨2, ![1024, 256]⟩
abbrev S512x1 : Shape := ⟨2, ![512, 1]⟩
abbrev S512x256 : Shape := ⟨2, ![512, 256]⟩
abbrev S1024x257 : Shape := ⟨2, ![1024, 257]⟩
abbrev S1x257 : Shape := ⟨2, ![1, 257]⟩
abbrev S1023x257 : Shape := ⟨2, ![1023, 257]⟩
abbrev S1023x1 : Shape := ⟨2, ![1023, 1]⟩
abbrev S2x257 : Shape := ⟨2, ![2, 257]⟩
abbrev S1022x257 : Shape := ⟨2, ![1022, 257]⟩
abbrev S2x1 : Shape := ⟨2, ![2, 1]⟩
abbrev S1022x1 : Shape := ⟨2, ![1022, 1]⟩
abbrev S4x257 : Shape := ⟨2, ![4, 257]⟩
abbrev S1020x257 : Shape := ⟨2, ![1020, 257]⟩
abbrev S4x1 : Shape := ⟨2, ![4, 1]⟩
abbrev S1020x1 : Shape := ⟨2, ![1020, 1]⟩
abbrev S8x257 : Shape := ⟨2, ![8, 257]⟩
abbrev S1016x257 : Shape := ⟨2, ![1016, 257]⟩
abbrev S8x1 : Shape := ⟨2, ![8, 1]⟩
abbrev S1016x1 : Shape := ⟨2, ![1016, 1]⟩
abbrev S16x257 : Shape := ⟨2, ![16, 257]⟩
abbrev S1008x257 : Shape := ⟨2, ![1008, 257]⟩
abbrev S16x1 : Shape := ⟨2, ![16, 1]⟩
abbrev S1008x1 : Shape := ⟨2, ![1008, 1]⟩
abbrev S32x257 : Shape := ⟨2, ![32, 257]⟩
abbrev S992x257 : Shape := ⟨2, ![992, 257]⟩
abbrev S32x1 : Shape := ⟨2, ![32, 1]⟩
abbrev S992x1 : Shape := ⟨2, ![992, 1]⟩
abbrev S64x257 : Shape := ⟨2, ![64, 257]⟩
abbrev S960x257 : Shape := ⟨2, ![960, 257]⟩
abbrev S64x1 : Shape := ⟨2, ![64, 1]⟩
abbrev S960x1 : Shape := ⟨2, ![960, 1]⟩
abbrev S128x257 : Shape := ⟨2, ![128, 257]⟩
abbrev S896x257 : Shape := ⟨2, ![896, 257]⟩
abbrev S128x1 : Shape := ⟨2, ![128, 1]⟩
abbrev S896x1 : Shape := ⟨2, ![896, 1]⟩
abbrev S256x257 : Shape := ⟨2, ![256, 257]⟩
abbrev S768x257 : Shape := ⟨2, ![768, 257]⟩
abbrev S768x1 : Shape := ⟨2, ![768, 1]⟩
abbrev S512x257 : Shape := ⟨2, ![512, 257]⟩
abbrev S1024x512 : Shape := ⟨2, ![1024, 512]⟩
abbrev S1024x258 : Shape := ⟨2, ![1024, 258]⟩
abbrev S512x258 : Shape := ⟨2, ![512, 258]⟩
abbrev S1024x514 : Shape := ⟨2, ![1024, 514]⟩
abbrev S512x514 : Shape := ⟨2, ![512, 514]⟩

abbrev nBuf : Space → Nat
  | .hbm => 16
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S_, .i32⟩
  | .hbm, ⟨7, _⟩ => ⟨S_, .f32⟩
  | .hbm, ⟨8, _⟩ => ⟨S50176x256, .f32⟩
  | .hbm, ⟨9, _⟩ => ⟨S_, .i32⟩
  | .hbm, ⟨10, _⟩ => ⟨S_, .i32⟩
  | .hbm, ⟨11, _⟩ => ⟨S50176, .i32⟩
  | .hbm, ⟨12, _⟩ => ⟨S50176x1, .i32⟩
  | .hbm, ⟨13, _⟩ => ⟨S1x256, .f32⟩
  | .hbm, ⟨14, _⟩ => ⟨S1x1, .f32⟩
  | .hbm, ⟨15, _⟩ => ⟨S512x768, .f32⟩
  | .local _ .vmem, ⟨0, _⟩ => ⟨S1024x1, .i32⟩
  | .local _ .vmem, ⟨1, _⟩ => ⟨S1024x1, .i32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S512x768, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_call0_v0 : Ref sig .tc := ⟨.hbm, 7, rfl⟩
abbrev main_call0_v0 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000x1 : Shape := ⟨2, ![50000, 1]⟩
abbrev S512 : Shape := ⟨1, ![512]⟩
abbrev S1x512 : Shape := ⟨2, ![1, 512]⟩
abbrev S50000x512 : Shape := ⟨2, ![50000, 512]⟩
abbrev S_ : Shape := ⟨0, ![]⟩
abbrev S512x256 : Shape := ⟨2, ![512, 256]⟩
abbrev S512x1 : Shape := ⟨2, ![512, 1]⟩
abbrev S50000x512x1 : Shape := ⟨3, ![50000, 512, 1]⟩
abbrev S50000x1x256 : Shape := ⟨3, ![50000, 1, 256]⟩
abbrev S50000x512x256 : Shape := ⟨3, ![50000, 512, 256]⟩
abbrev S1x256 : Shape := ⟨2, ![1, 256]⟩
abbrev S1x1 : Shape := ⟨2, ![1, 1]⟩
abbrev S512x768 : Shape := ⟨2, ![512, 768]⟩

abbrev nBuf : Space → Nat
  | .hbm => 116
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S50000x1, .i32⟩
  | .hbm, ⟨7, _⟩ => ⟨S512, .i32⟩
  | .hbm, ⟨8, _⟩ => ⟨S1x512, .i32⟩
  | .hbm, ⟨9, _⟩ => ⟨S50000x512, .i32⟩
  | .hbm, ⟨10, _⟩ => ⟨S50000x512, .i32⟩
  | .hbm, ⟨11, _⟩ => ⟨S50000x512, .i1⟩
  | .hbm, ⟨12, _⟩ => ⟨S_, .f32⟩
  | .hbm, ⟨13, _⟩ => ⟨S50000, .f32⟩
  | .hbm, ⟨14, _⟩ => ⟨S_, .f32⟩
  | .hbm, ⟨15, _⟩ => ⟨S512, .f32⟩
  | .hbm, ⟨16, _⟩ => ⟨S50000x1, .i32⟩
  | .hbm, ⟨17, _⟩ => ⟨S512, .f32⟩
  | .hbm, ⟨18, _⟩ => ⟨S_, .f32⟩
  | .hbm, ⟨19, _⟩ => ⟨S512x256, .f32⟩
  | .hbm, ⟨20, _⟩ => ⟨S50000x1, .i32⟩
  | .hbm, ⟨21, _⟩ => ⟨S512x256, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512x1, .f32⟩
  | .hbm, ⟨26, _⟩ => ⟨S512x256, .f32⟩
  | .hbm, ⟨27, _⟩ => ⟨S512x256, .f32⟩
  | .hbm, ⟨28, _⟩ => ⟨S50000x512x1, .i1⟩
  | .hbm, ⟨29, _⟩ => ⟨S50000x1x256, .f32⟩
  | .hbm, ⟨30, _⟩ => ⟨S_, .f32⟩
  | .hbm, ⟨31, _⟩ => ⟨S_, .f32⟩
  | .hbm, ⟨32, _⟩ => ⟨S50000x512x256, .i1⟩
  | .hbm, ⟨33, _⟩ => ⟨S50000x512x256, .f32⟩
  | .hbm, ⟨34, _⟩ => ⟨S50000x512x256, .f32⟩
  | .hbm, ⟨35, _⟩ => ⟨S50000x512x256, .f32⟩
  | .hbm, ⟨36, _⟩ => ⟨S_, .f32⟩
  | .hbm, ⟨37, _⟩ => ⟨S512x256, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .i1⟩
  | .hbm, ⟨42, _⟩ => ⟨S_, .f32⟩
  | .hbm, ⟨43, _⟩ => ⟨S_, .f32⟩
  | .hbm, ⟨44, _⟩ => ⟨S512x256, .i1⟩
  | .hbm, ⟨45, _⟩ => ⟨S512x256, .f32⟩
  | .hbm, ⟨46, _⟩ => ⟨S512x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x1, .f32⟩
  | .hbm, ⟨61, _⟩ => ⟨S1x1, .f32⟩
  | .hbm, ⟨62, _⟩ => ⟨S50000x1, .f32⟩
  | .hbm, ⟨63, _⟩ => ⟨S50000x1, .f32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S_, .f32⟩
  | .hbm, ⟨68, _⟩ => ⟨S50000x512, .f32⟩
  | .hbm, ⟨69, _⟩ => ⟨S50000x512, .f32⟩
  | .hbm, ⟨70, _⟩ => ⟨S50000x512, .f32⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .i1⟩
  | .hbm, ⟨76, _⟩ => ⟨S_, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S_, .i32⟩
  | .hbm, ⟨81, _⟩ => ⟨S50000, .i32⟩
  | .hbm, ⟨82, _⟩ => ⟨S50000, .i1⟩
  | .hbm, ⟨83, _⟩ => ⟨S_, .i32⟩
  | .hbm, ⟨84, _⟩ => ⟨S50000, .i32⟩
  | .hbm, ⟨85, _⟩ => ⟨S50000, .i32⟩
  | .hbm, ⟨86, _⟩ => ⟨S50000, .i32⟩
  | .hbm, ⟨87, _⟩ => ⟨S50000x1, .i32⟩
  | .hbm, ⟨88, _⟩ => ⟨S50000, .f32⟩
  | .hbm, ⟨89, _⟩ => ⟨S50000, .f32⟩
  | .hbm, ⟨90, _⟩ => ⟨S50000, .f32⟩
  | .hbm, ⟨91, _⟩ => ⟨S_, .f32⟩
  | .hbm, ⟨92, _⟩ => ⟨S512, .f32⟩
  | .hbm, ⟨93, _⟩ => ⟨S50000x1, .i32⟩
  | .hbm, ⟨94, _⟩ => ⟨S512, .f32⟩
  | .hbm, ⟨95, _⟩ => ⟨S_, .i32⟩
  | .hbm, ⟨96, _⟩ => ⟨S50000, .i32⟩
  | .hbm, ⟨97, _⟩ => ⟨S50000, .i1⟩
  | .hbm, ⟨98, _⟩ => ⟨S_, .i32⟩
  | .hbm, ⟨99, _⟩ => ⟨S50000, .i32⟩
  | .hbm, ⟨100, _⟩ => ⟨S50000, .i32⟩
  | .hbm, ⟨101, _⟩ => ⟨S50000, .i32⟩
  | .hbm, ⟨102, _⟩ => ⟨S50000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000, .f32⟩
  | .hbm, ⟨108, _⟩ => ⟨S50000x1, .f32⟩
  | .hbm, ⟨109, _⟩ => ⟨S50000x256, .f32⟩
  | .hbm, ⟨110, _⟩ => ⟨S50000x256, .f32⟩
  | .hbm, ⟨111, _⟩ => ⟨S_, .f32⟩
  | .hbm, ⟨112, _⟩ => ⟨S512x256, .f32⟩
  | .hbm, ⟨113, _⟩ => ⟨S50000x1, .i32⟩
  | .hbm, ⟨114, _⟩ => ⟨S512x256, .f32⟩
  | .hbm, ⟨115, _⟩ => ⟨S512x768, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_c : Ref sig .tc := ⟨.hbm, 80, rfl⟩
abbrev main_v48 : Ref sig .tc := ⟨.hbm, 81, rfl⟩
abbrev main_v49 : Ref sig .tc := ⟨.hbm, 82, rfl⟩
abbrev main_c_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_15 : Ref sig .tc := ⟨.hbm, 95, rfl⟩
abbrev main_v60 : Ref sig .tc := ⟨.hbm, 96, rfl⟩
abbrev main_v61 : Ref sig .tc := ⟨.hbm, 97, rfl⟩
abbrev main_c_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== Proof.Input.lean ====
/-
  What one grid point finds in its input blocks: 1024 rows of the features and of the segment words, padded after row
  50000 with zero features and the word 512, and the weights and biases whole.
-/
module

public import proofs.«01_k».proof.Proof.Gen.KernelIdeal.Frame
public import Idealize.ShloMosaic.Lib.Pointwise
public import Idealize.ShloMosaic.PureOps.Ideal.Laws

@[expose] public section

set_option maxRecDepth 16384

noncomputable section

namespace Cert.Input

open Idealize.ShloMosaic Idealize.ShloMosaic.TcCoe Cert.KernelIdeal Cert.KernelIdeal.Gen Idealize.SL.Sem

variable (m : (ℓ : Loc nD τ sig) → Buf (Elt Ideal) ℓ)

/-- The block that window 0 reads at point `t`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The block that window 1 reads at point `t`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The block that window 2 reads at point `t`. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The block that window 3 reads at point `t`. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The block that window 4 reads at point `t`. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- The block that window 5 reads at point `t`. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The padded features the region finds. -/
theorem features (c : Dev nD) : V m c main_call0_v0
    = pad S50176x256 ![0, 0] ![176, 0] ![0, 0] (m ((c : Thread nD τ).loc main_arg0)) (sitofp (F := Ideal) .f32 (constantI S_ 32 0#32))
        pads_S50000x256_S50176x256_01760_000 h_S_ := by
  unfold_abbrev_sides
  after_results
  rfl

/-- The padded segment words the region finds, as a column. -/
theorem words (c : Dev nD) : V m c main_call0_v2
    = shapeCast S50176x1 (pad S50176 ![0] ![176] ![0] (m ((c : Thread nD τ).loc main_arg1)) (constantI S_ 32 512#32)
        pads_S50000_S50176_01760 h_S_) shapeCasts_S50176_S50176x1 := by
  unfold_abbrev_sides
  after_results
  rfl

/-- The first bias as a row. -/
theorem bias1 (c : Dev nD) : V m c main_call0_v3
    = shapeCast S1x256 (m ((c : Thread nD τ).loc main_arg3)) shapeCasts_S256_S1x256 := by
  unfold_abbrev_sides
  after_results
  rfl

/-- The second bias as a single entry. -/
theorem bias2 (c : Dev nD) : V m c main_call0_v4
    = shapeCast S1x1 (m ((c : Thread nD τ).loc main_arg5)) shapeCasts_S1_S1x1 := by
  unfold_abbrev_sides
  after_results
  rfl

/-- Every block lies in the padded array. -/
theorem row_lt (t : Fin cfg0.N) (r : Fin 1024) : 1024 * t.val + r.val < 50176 := by
  have : t.val < 49 := lt_of_lt_of_eq t.isLt N_0
  omega

/-- The padded words: the words, then 512. -/
theorem padded_words (s : Vec Ideal S50000 .i32) (q : Fin 50176) :
    shapeCast S50176x1 (pad S50176 ![0] ![176] ![0] s (constantI S_ 32 512#32) pads_S50000_S50176_01760 h_S_)
        shapeCasts_S50176_S50176x1 (ix2 q 0) = if h : q.val < 50000 then s (ix1 ⟨q.val, h⟩) else 512#32 := by
  pointwise

/-- The padded features: the features, then 0. -/
theorem padded_features (s : Vec Ideal S50000x256 .f32) (q : Fin 50176) (d : Fin 256) :
    pad S50176x256 ![0, 0] ![176, 0] ![0, 0] s (sitofp (F := Ideal) .f32 (constantI S_ 32 0#32))
        pads_S50000x256_S50176x256_01760_000 h_S_ (ix2 q d) = if h : q.val < 50000 then s (ix2 ⟨q.val, h⟩ d) else (0 : EReal) := by
  pointwise
  simp [FloatOps.sitofp]

/-- Row `r` of block `t` of the segment words. -/
theorem seg_block (c : Dev nD) (t : Fin cfg0.N) (r : Fin 1024) :
    (iblk m c 0 t : Vec Ideal S1024x1 .i32) (ix2 r 0)
      = if h : 1024 * t.val + r.val < 50000 then m ((c : Thread nD τ).loc main_arg1) (ix1 ⟨1024 * t.val + r.val, h⟩) else 512#32 := by
  obtain ⟨e0, e1⟩ := idx0 t
  have h : (iblk m c 0 t : Vec Ideal S1024x1 .i32) (ix2 r 0) = V m c main_call0_v2 (ix2 ⟨1024 * t.val + r.val, row_lt t r⟩ 0) := by
    unfold iblk
    rw [View.read_apply]
    show V m c main_call0_v2 _ = V m c main_call0_v2 _
    congr 1
    funext a
    apply Fin.ext
    match a with
    | ⟨0, _⟩ => show win0_0.index t 0 * 1024 + 1 * r.val = 1024 * t.val + r.val; rw [e0]; omega
    | ⟨1, _⟩ => show win0_0.index t 1 * 1 + 1 * 0 = 0; rw [e1]
  rw [h, words, padded_words]

/-- Row `r`, column `d` of block `t` of the features. -/
theorem feature_block (c : Dev nD) (t : Fin cfg0.N) (r : Fin 1024) (d : Fin 256) :
    (iblk m c 1 t : Vec Ideal S1024x256 .f32) (ix2 r d)
      = if h : 1024 * t.val + r.val < 50000 then m ((c : Thread nD τ).loc main_arg0) (ix2 ⟨1024 * t.val + r.val, h⟩ d) else (0 : EReal) := by
  obtain ⟨e0, e1⟩ := idx1 t
  have h : (iblk m c 1 t : Vec Ideal S1024x256 .f32) (ix2 r d) = V m c main_call0_v0 (ix2 ⟨1024 * t.val + r.val, row_lt t r⟩ d) := by
    unfold iblk
    rw [View.read_apply]
    show V m c main_call0_v0 _ = V m c main_call0_v0 _
    congr 1
    funext a
    apply Fin.ext
    match a with
    | ⟨0, _⟩ => show win0_1.index t 0 * 1024 + 1 * r.val = 1024 * t.val + r.val; rw [e0]; omega
    | ⟨1, _⟩ => show win0_1.index t 1 * 256 + 1 * d.val = d.val; rw [e1]; omega
  rw [h, features, padded_features]

/-- Every point reads the whole first weight. -/
theorem w1_block (c : Dev nD) (t : Fin cfg0.N) (l k : Fin 256) :
    (iblk m c 2 t : Vec Ideal S256x256 .f32) (ix2 l k) = m ((c : Thread nD τ).loc main_arg2) (ix2 l k) := by
  obtain ⟨e0, e1⟩ := idx2 t
  rw [← V_main_arg2 m c]
  unfold iblk
  rw [View.read_apply]
  show V m c main_arg2 _ = V m c main_arg2 _
  congr 1
  funext a
  apply Fin.ext
  match a with
  | ⟨0, _⟩ => show win0_2.index t 0 * 256 + 1 * l.val = l.val; rw [e0]; omega
  | ⟨1, _⟩ => show win0_2.index t 1 * 256 + 1 * k.val = k.val; rw [e1]; omega

/-- Every point reads the whole first bias. -/
theorem b1_block (c : Dev nD) (t : Fin cfg0.N) (k : Fin 256) :
    (iblk m c 3 t : Vec Ideal S1x256 .f32) (ix2 0 k) = m ((c : Thread nD τ).loc main_arg3) (ix1 k) := by
  obtain ⟨e0, e1⟩ := idx3 t
  have h : (iblk m c 3 t : Vec Ideal S1x256 .f32) (ix2 0 k) = V m c main_call0_v3 (ix2 0 k) := by
    unfold iblk
    rw [View.read_apply]
    show V m c main_call0_v3 _ = V m c main_call0_v3 _
    congr 1
    funext a
    apply Fin.ext
    match a with
    | ⟨0, _⟩ => show win0_3.index t 0 * 1 + 1 * 0 = 0; rw [e0]
    | ⟨1, _⟩ => show win0_3.index t 1 * 256 + 1 * k.val = k.val; rw [e1]; omega
  rw [h, bias1]
  generalize m ((c : Thread nD τ).loc main_arg3) = s
  pointwise

/-- Every point reads the whole second weight. -/
theorem w2_block (c : Dev nD) (t : Fin cfg0.N) (k : Fin 256) :
    (iblk m c 4 t : Vec Ideal S256x1 .f32) (ix2 k 0) = m ((c : Thread nD τ).loc main_arg4) (ix2 k 0) := by
  obtain ⟨e0, e1⟩ := idx4 t
  rw [← V_main_arg4 m c]
  unfold iblk
  rw [View.read_apply]
  show V m c main_arg4 _ = V m c main_arg4 _
  congr 1
  funext a
  apply Fin.ext
  match a with
  | ⟨0, _⟩ => show win0_4.index t 0 * 256 + 1 * k.val = k.val; rw [e0]; omega
  | ⟨1, _⟩ => show win0_4.index t 1 * 1 + 1 * 0 = 0; rw [e1]

/-- Every point reads the second bias. -/
theorem b2_block (c : Dev nD) (t : Fin cfg0.N) :
    (iblk m c 5 t : Vec Ideal S1x1 .f32) (ix2 0 0) = m ((c : Thread nD τ).loc main_arg5) (ix1 0) := by
  obtain ⟨e0, e1⟩ := idx5 t
  have h : (iblk m c 5 t : Vec Ideal S1x1 .f32) (ix2 0 0) = V m c main_call0_v4 (ix2 0 0) := by
    unfold iblk
    rw [View.read_apply]
    show V m c main_call0_v4 _ = V m c main_call0_v4 _
    congr 1
    funext a
    apply Fin.ext
    match a with
    | ⟨0, _⟩ => show win0_5.index t 0 * 1 + 1 * 0 = 0; rw [e0]
    | ⟨1, _⟩ => show win0_5.index t 1 * 1 + 1 * 0 = 0; rw [e1]
  rw [h, bias2]
  generalize m ((c : Thread nD τ).loc main_arg5) = s
  pointwise

end Cert.Input
-- ==== Proof.Doubling.lean ====
/-
  The segmented maximum of one block of 1024 rows. The kernel combines every row with the row 1, 2, 4, …, 512 places
  before it (wrapping around) whenever both carry the same segment word; the rows of one segment stand together, so
  the segment's last row ends with the maximum over the segment. That last row is then picked by a one-hot sum.
-/
module

public import Mathlib.Data.EReal.Operations
public import Mathlib.Data.Finset.Max
public import Mathlib.Algebra.BigOperators.Ring.Finset

@[expose] public section

noncomputable section

namespace Cert.Doubling

/-- The row `s` places before `r`, wrapping around the block of 1024 rows. -/
def back (s : ℕ) (r : Fin 1024) : Fin 1024 := ⟨(r.val + (1024 - s)) % 1024, Nat.mod_lt _ (by decide)⟩

/-- One combination step: a row takes the larger of its value and the value `s` rows before it when both rows carry
    one segment word. -/
def step (seg : Fin 1024 → BitVec 32) (s : ℕ) (v : Fin 1024 → EReal) : Fin 1024 → EReal :=
  fun r => if seg r = seg (back s r) then max (v r) (v (back s r)) else v r

/-- All ten steps, with distances 1, 2, 4, …, 512. -/
def steps (seg : Fin 1024 → BitVec 32) (v : Fin 1024 → EReal) : Fin 1024 → EReal :=
  step seg 512 (step seg 256 (step seg 128 (step seg 64 (step seg 32 (step seg 16 (step seg 8 (step seg 4
    (step seg 2 (step seg 1 v)))))))))

/-- The rows of the block that carry the word `g`. -/
def rows (seg : Fin 1024 → BitVec 32) (g : BitVec 32) : Finset (Fin 1024) := Finset.univ.filter fun r => seg r = g

/-- A row is among those of a word when it holds the word. -/
theorem mem_rows {seg : Fin 1024 → BitVec 32} {g : BitVec 32} {r : Fin 1024} : r ∈ rows seg g ↔ seg r = g := by
  simp [rows]

/-- The rows that carry the word `g` stand together. -/
def Together (seg : Fin 1024 → BitVec 32) (g : BitVec 32) : Prop :=
  ∀ a b c : Fin 1024, a ≤ b → b ≤ c → seg a = g → seg c = g → seg b = g

/-- What holds of the combined values `v` once every row has met the `n - 1` rows before it: on the rows of `g`,
    nothing exceeds the segment's maximum, and every row is at least the rows of `g` fewer than `n` before it. -/
structure Covers (seg : Fin 1024 → BitVec 32) (g : BitVec 32) (v0 : Fin 1024 → EReal) (n : ℕ) (v : Fin 1024 → EReal) : Prop where
  le : ∀ r, seg r = g → v r ≤ (rows seg g).sup v0
  ge : ∀ r q : Fin 1024, seg r = g → seg q = g → q ≤ r → r.val < q.val + n → v0 q ≤ v r

variable {seg : Fin 1024 → BitVec 32} {g : BitVec 32} {v0 v : Fin 1024 → EReal}

/-- Before any step every row has met itself. -/
theorem covers_one : Covers seg g v0 1 v0 where
  le r hr := Finset.le_sup (mem_rows.mpr hr)
  ge r q _ _ hq h := by
    obtain rfl : q = r := by apply Fin.ext; have := Fin.le_def.mp hq; omega
    exact le_refl _

/-- A step with distance `n` doubles the number of rows met. -/
theorem covers_step (ht : Together seg g) {n : ℕ} (h0 : 0 < n) (hn : n ≤ 1024) (h : Covers seg g v0 n v) :
    Covers seg g v0 (n + n) (step seg n v) where
  le r hr := by
    unfold step
    split
    · rename_i e
      exact max_le (h.le r hr) (h.le _ (e ▸ hr))
    · exact h.le r hr
  ge r q hr hq hqr hlt := by
    have hqr' := Fin.le_def.mp hqr
    by_cases hc : r.val < q.val + n
    · refine (h.ge r q hr hq hqr hc).trans ?_
      unfold step
      split
      · exact le_max_left _ _
      · exact le_refl _
    · have hr1024 := r.isLt
      have hb : (back n r).val = r.val - n := by
        show (r.val + (1024 - n)) % 1024 = r.val - n
        omega
      have hs : seg (back n r) = g := ht q (back n r) r (Fin.le_def.mpr (by omega)) (Fin.le_def.mpr (by omega)) hq hr
      have hv := h.ge (back n r) q hs hq (Fin.le_def.mpr (by omega)) (by omega)
      unfold step
      rw [if_pos (hr.trans hs.symm)]
      exact hv.trans (le_max_right _ _)

/-- After the ten steps every row has met every row before it. -/
theorem covers_steps (ht : Together seg g) : Covers seg g v0 1024 (steps seg v0) :=
  covers_step ht (n := 512) (by decide) (by decide) <| covers_step ht (n := 256) (by decide) (by decide) <|
  covers_step ht (n := 128) (by decide) (by decide) <| covers_step ht (n := 64) (by decide) (by decide) <|
  covers_step ht (n := 32) (by decide) (by decide) <| covers_step ht (n := 16) (by decide) (by decide) <|
  covers_step ht (n := 8) (by decide) (by decide) <| covers_step ht (n := 4) (by decide) (by decide) <|
  covers_step ht (n := 2) (by decide) (by decide) <| covers_step ht (n := 1) (by decide) (by decide) covers_one

/-- The segment's last row ends with the segment's maximum. -/
theorem steps_last (ht : Together seg g) (e : Fin 1024) (he : seg e = g) (hl : ∀ q, seg q = g → q ≤ e) :
    steps seg v0 e = (rows seg g).sup v0 := by
  have h := covers_steps (v0 := v0) ht
  refine le_antisymm (h.le e he) (Finset.sup_le fun q hq => ?_)
  have hq' := mem_rows.mp hq
  exact h.ge e q he hq' (hl q hq') (by have := e.isLt; omega)

/-- The word after row `r`'s: the next row's, and `-2` after the last row. -/
def next (seg : Fin 1024 → BitVec 32) (r : Fin 1024) : BitVec 32 :=
  if h : r.val < 1023 then seg ⟨r.val + 1, by omega⟩ else 4294967294#32

/-- The one-hot sum over the rows of `g` whose next word differs picks `y` at the segment's last row; it is zero when
    the block has no row of `g`. -/
theorem pick_last (ht : Together seg g) (hg : g ≠ 4294967294#32) (y : Fin 1024 → EReal) :
    (∃ e, seg e = g ∧ (∀ q, seg q = g → q ≤ e) ∧
      ∑ r, ((if seg r = g then (1 : EReal) else 0) * (if seg r ≠ next seg r then 1 else 0)) * y r = y e)
    ∨ ((∀ r, seg r ≠ g) ∧
      ∑ r, ((if seg r = g then (1 : EReal) else 0) * (if seg r ≠ next seg r then 1 else 0)) * y r = 0) := by
  by_cases hne : (rows seg g).Nonempty
  · left
    have he := mem_rows.mp ((rows seg g).max'_mem hne)
    have hl : ∀ q, seg q = g → q ≤ (rows seg g).max' hne := fun q hq => (rows seg g).le_max' q (mem_rows.mpr hq)
    generalize (rows seg g).max' hne = e at he hl
    refine ⟨e, he, hl, ?_⟩
    rw [Finset.sum_eq_single e]
    · have hn : seg e ≠ next seg e := by
        unfold next
        split
        · rename_i h
          intro hh
          have := Fin.le_def.mp (hl _ (hh ▸ he))
          simp at this
        · exact he ▸ hg
      rw [if_pos he, if_pos hn, one_mul, one_mul]
    · intro r _ hr
      by_cases hs : seg r = g
      · have hlt : r.val < e.val := lt_of_le_of_ne (Fin.le_def.mp (hl r hs)) fun h => hr (Fin.ext h)
        have he' := e.isLt
        have hn : next seg r = g := by
          unfold next
          rw [dif_pos (by omega)]
          exact ht r _ e (Fin.le_def.mpr (by simp)) (Fin.le_def.mpr hlt) hs he
        rw [if_neg (c := seg r ≠ next seg r) (fun h => h (hs.trans hn.symm)), mul_zero, zero_mul]
      · rw [if_neg hs, zero_mul, zero_mul]
    · exact fun h => absurd (Finset.mem_univ e) h
  · right
    have hno : ∀ r, seg r ≠ g := fun r hr => hne ⟨r, mem_rows.mpr hr⟩
    refine ⟨hno, Finset.sum_eq_zero fun r _ => ?_⟩
    rw [if_neg (hno r), zero_mul, zero_mul]

/-- So the maximum the kernel reads off the picked rows — `⊥` where the count of picked rows is zero — is the maximum
    over the segment's rows in the block. -/
theorem picked_max (ht : Together seg g) (hg : g ≠ 4294967294#32) (v : Fin 1024 → EReal) :
    (if 0 < ∑ r, ((if seg r = g then (1 : EReal) else 0) * (if seg r ≠ next seg r then 1 else 0)) * 1
      then ∑ r, ((if seg r = g then (1 : EReal) else 0) * (if seg r ≠ next seg r then 1 else 0)) * steps seg v r else ⊥)
    = (rows seg g).sup v := by
  rcases pick_last ht hg (steps seg v) with ⟨e, he, hl, hs⟩ | ⟨hno, _⟩
  · rcases pick_last ht hg (fun _ => (1 : EReal)) with ⟨_, _, _, h1⟩ | ⟨hno, _⟩
    · rw [h1, if_pos zero_lt_one, hs]
      exact steps_last ht e he hl
    · exact absurd he (hno e)
  · rcases pick_last ht hg (fun _ => (1 : EReal)) with ⟨e, he, _, _⟩ | ⟨_, h1⟩
    · exact absurd he (hno e)
    · rw [h1, if_neg (lt_irrefl _)]
      have : rows seg g = ∅ := Finset.eq_empty_of_forall_notMem fun r hr => hno r (mem_rows.mp hr)
      rw [this, Finset.sup_empty]

end Cert.Doubling
-- ==== Proof.Roll.lean ====
/-
  One combination step of the kernel's segmented maximum, as the vector operations write it: the block and its segment
  column are rolled down by `a` rows (the last `a` rows put before the first `b`), and where the two segment words agree
  the larger value is taken. Read at an index this is `Doubling.step` with distance `a`.
-/
module

public import proofs.«01_k».proof.Proof.Gen.KernelIdeal.Skeleton
public import proofs.«01_k».proof.Proof.Doubling
public import Idealize.ShloMosaic.Lib.Pointwise
public import Idealize.ShloMosaic.Lib.Pointwise.IndexVar
public import Idealize.ShloMosaic.PureOps.Ideal.Laws

@[expose] public section

set_option maxRecDepth 16384

noncomputable section

namespace Cert.Roll

open Idealize.ShloMosaic Cert.KernelIdeal Cert.KernelIdeal.Gen

/-- The block `v` combined with itself rolled down by `a` rows. -/
def combine (a b : ℕ)
    (s1 : S1024x257.Slices ![b, 0] ⟨2, ![a, 257]⟩) (s2 : S1024x257.Slices ![0, 0] ⟨2, ![b, 257]⟩)
    (s3 : Shape.Concatenates [⟨2, ![a, 257]⟩, ⟨2, ![b, 257]⟩] S1024x257 0)
    (t1 : S1024x1.Slices ![b, 0] ⟨2, ![a, 1]⟩) (t2 : S1024x1.Slices ![0, 0] ⟨2, ![b, 1]⟩)
    (t3 : Shape.Concatenates [⟨2, ![a, 1]⟩, ⟨2, ![b, 1]⟩] S1024x1 0)
    (seg : IVec S1024x1 32) (v : FVec Ideal S1024x257 .f32) : FVec Ideal S1024x257 .f32 :=
  select
    (broadcastTo S1024x257 (shapeCast S1024x1
      (cmpi .eq seg (concatenate S1024x1 0
        [⟨⟨2, ![a, 1]⟩, extractStridedSlice ⟨2, ![a, 1]⟩ ![b, 0] seg t1⟩,
         ⟨⟨2, ![b, 1]⟩, extractStridedSlice ⟨2, ![b, 1]⟩ ![0, 0] seg t2⟩] t3))
      shapeCasts_S1024x1_S1024x1) broadcasts_S1024x1_S1024x257)
    (maximumf v (concatenate S1024x257 0
      [⟨⟨2, ![a, 257]⟩, extractStridedSlice ⟨2, ![a, 257]⟩ ![b, 0] v s1⟩,
       ⟨⟨2, ![b, 257]⟩, extractStridedSlice ⟨2, ![b, 257]⟩ ![0, 0] v s2⟩] s3))
    v

/-- A choice on the comparison of two words. -/
theorem select_eq {α : Type} (x y : BitVec 32) (u w : α) :
    Scalar.select (IntOp.cmpi .eq x y) u w = if x = y then u else w := by
  unfold Scalar.select IntOp.cmpi
  by_cases h : x = y
  · simp [h]
  · have hb : (x == y) = false := by simpa using h
    simp [hb, h]

/-- One combination at a row and column. -/
theorem combine_apply (a b : ℕ) (hab : a + b = 1024) (h0 : 0 < a)
    (s1 : S1024x257.Slices ![b, 0] ⟨2, ![a, 257]⟩) (s2 : S1024x257.Slices ![0, 0] ⟨2, ![b, 257]⟩)
    (s3 : Shape.Concatenates [⟨2, ![a, 257]⟩, ⟨2, ![b, 257]⟩] S1024x257 0)
    (t1 : S1024x1.Slices ![b, 0] ⟨2, ![a, 1]⟩) (t2 : S1024x1.Slices ![0, 0] ⟨2, ![b, 1]⟩)
    (t3 : Shape.Concatenates [⟨2, ![a, 1]⟩, ⟨2, ![b, 1]⟩] S1024x1 0)
    (seg : IVec S1024x1 32) (v : FVec Ideal S1024x257 .f32) (r : Fin 1024) (l : Fin 257) :
    combine a b s1 s2 s3 t1 t2 t3 seg v (ix2 r l)
      = Doubling.step (fun q => seg (ix2 q 0)) a (fun q => v (ix2 q l)) r := by
  unfold combine
  pointwise
  have hrow : ∀ {α : Type} (f : Fin 1024 → α), (if h : r.val < a then f ⟨b + r.val, by omega⟩ else f ⟨r.val - a, by omega⟩)
      = f (Doubling.back a r) := by
    intro α f
    have hr := r.isLt
    split
    · refine congrArg f (Fin.ext ?_)
      show b + r.val = (r.val + (1024 - a)) % 1024
      omega
    · refine congrArg f (Fin.ext ?_)
      show r.val - a = (r.val + (1024 - a)) % 1024
      omega
  rw [hrow fun q => seg (ix2 q 0), hrow fun q => v (ix2 q l)]
  exact select_eq _ _ _ _

/-- The combinations with distances 1 to 64 of the block `v`. -/
def early (seg : IVec S1024x1 32) (v : FVec Ideal S1024x257 .f32) : FVec Ideal S1024x257 .f32 :=
  combine 64 960 slices_S1024x257_o960_0_S64x257 slices_S1024x257_o0_0_S960x257 concatenates_S64x257_S960x257_S1024x257_d0
    slices_S1024x1_o960_0_S64x1 slices_S1024x1_o0_0_S960x1 concatenates_S64x1_S960x1_S1024x1_d0 seg <|
  combine 32 992 slices_S1024x257_o992_0_S32x257 slices_S1024x257_o0_0_S992x257 concatenates_S32x257_S992x257_S1024x257_d0
    slices_S1024x1_o992_0_S32x1 slices_S1024x1_o0_0_S992x1 concatenates_S32x1_S992x1_S1024x1_d0 seg <|
  combine 16 1008 slices_S1024x257_o1008_0_S16x257 slices_S1024x257_o0_0_S1008x257 concatenates_S16x257_S1008x257_S1024x257_d0
    slices_S1024x1_o1008_0_S16x1 slices_S1024x1_o0_0_S1008x1 concatenates_S16x1_S1008x1_S1024x1_d0 seg <|
  combine 8 1016 slices_S1024x257_o1016_0_S8x257 slices_S1024x257_o0_0_S1016x257 concatenates_S8x257_S1016x257_S1024x257_d0
    slices_S1024x1_o1016_0_S8x1 slices_S1024x1_o0_0_S1016x1 concatenates_S8x1_S1016x1_S1024x1_d0 seg <|
  combine 4 1020 slices_S1024x257_o1020_0_S4x257 slices_S1024x257_o0_0_S1020x257 concatenates_S4x257_S1020x257_S1024x257_d0
    slices_S1024x1_o1020_0_S4x1 slices_S1024x1_o0_0_S1020x1 concatenates_S4x1_S1020x1_S1024x1_d0 seg <|
  combine 2 1022 slices_S1024x257_o1022_0_S2x257 slices_S1024x257_o0_0_S1022x257 concatenates_S2x257_S1022x257_S1024x257_d0
    slices_S1024x1_o1022_0_S2x1 slices_S1024x1_o0_0_S1022x1 concatenates_S2x1_S1022x1_S1024x1_d0 seg <|
  combine 1 1023 slices_S1024x257_o1023_0_S1x257 slices_S1024x257_o0_0_S1023x257 concatenates_S1x257_S1023x257_S1024x257_d0
    slices_S1024x1_o1023_0_S1x1 slices_S1024x1_o0_0_S1023x1 concatenates_S1x1_S1023x1_S1024x1_d0 seg v

/-- The combinations with distances 128, 256 and 512 of the block `v`. -/
def late (seg : IVec S1024x1 32) (v : FVec Ideal S1024x257 .f32) : FVec Ideal S1024x257 .f32 :=
  combine 512 512 slices_S1024x257_o512_0_S512x257 slices_S1024x257_o0_0_S512x257 concatenates_S512x257_S512x257_S1024x257_d0
    slices_S1024x1_o512_0_S512x1 slices_S1024x1_o0_0_S512x1 concatenates_S512x1_S512x1_S1024x1_d0 seg <|
  combine 256 768 slices_S1024x257_o768_0_S256x257 slices_S1024x257_o0_0_S768x257 concatenates_S256x257_S768x257_S1024x257_d0
    slices_S1024x1_o768_0_S256x1 slices_S1024x1_o0_0_S768x1 concatenates_S256x1_S768x1_S1024x1_d0 seg <|
  combine 128 896 slices_S1024x257_o896_0_S128x257 slices_S1024x257_o0_0_S896x257 concatenates_S128x257_S896x257_S1024x257_d0
    slices_S1024x1_o896_0_S128x1 slices_S1024x1_o0_0_S896x1 concatenates_S128x1_S896x1_S1024x1_d0 seg v

/-- Column by column, the ten combinations are the ten doubling steps. -/
theorem late_early_apply (seg : IVec S1024x1 32) (v : FVec Ideal S1024x257 .f32) (r : Fin 1024) (l : Fin 257) :
    late seg (early seg v) (ix2 r l) = Doubling.steps (fun q => seg (ix2 q 0)) (fun q => v (ix2 q l)) r := by
  unfold late early Doubling.steps
  rw [combine_apply 512 512 rfl (by decide)]; congr 1; funext q
  rw [combine_apply 256 768 rfl (by decide)]; congr 1; funext q
  rw [combine_apply 128 896 rfl (by decide)]; congr 1; funext q
  rw [combine_apply 64 960 rfl (by decide)]; congr 1; funext q
  rw [combine_apply 32 992 rfl (by decide)]; congr 1; funext q
  rw [combine_apply 16 1008 rfl (by decide)]; congr 1; funext q
  rw [combine_apply 8 1016 rfl (by decide)]; congr 1; funext q
  rw [combine_apply 4 1020 rfl (by decide)]; congr 1; funext q
  rw [combine_apply 2 1022 rfl (by decide)]; congr 1; funext q
  rw [combine_apply 1 1023 rfl (by decide)]

/-- The block `[x | gate]` that the combinations start from. -/
def start (v3 : Vec Ideal S1024x256 .f32) (v7 : Vec Ideal S256x256 .f32) (v9 : Vec Ideal S1x256 .f32)
    (v15 : Vec Ideal S256x1 .f32) (v17 : Vec Ideal S1x1 .f32) : FVec Ideal S1024x257 .f32 :=
  concatenate S1024x257 1 [⟨S1024x256, k0_pay12 v3⟩, ⟨S1024x1, k0_pay14 v3 v7 v9 v15 v17⟩] concatenates_S1024x256_S1024x1_S1024x257_d1

/-- The body's value after the distance 64 is the early combinations of the starting block. -/
theorem pay18_eq (v3 : Vec Ideal S1024x256 .f32) (v5 : Vec Ideal S1024x1 .i32) (v7 : Vec Ideal S256x256 .f32)
    (v9 : Vec Ideal S1x256 .f32) (v15 : Vec Ideal S256x1 .f32) (v17 : Vec Ideal S1x1 .f32) :
    k0_pay18 (k0_pay13 v5) (k0_pay15 v3 v5 v7 v9 v15 v17) (k0_pay16 v3 v5 v7 v9 v15 v17) (k0_pay17 (F := Ideal) v5)
      = early (k0_pay13 (F := Ideal) v5) (start v3 v7 v9 v15 v17) := rfl

/-- One where a row's segment word differs from the next row's, zero elsewhere. -/
def ends (seg : IVec S1024x1 32) : FVec Ideal S1024x1 .f32 :=
  sitofp .f32 (extui 32 (cmpi .ne seg (concatenate S1024x1 0
    [⟨S1023x1, extractStridedSlice S1023x1 ![1, 0] seg slices_S1024x1_o1_0_S1023x1⟩,
     ⟨S1x1, broadcast S1x1 4294967294#32⟩] concatenates_S1023x1_S1x1_S1024x1_d0)) natLt_1_32)

/-- The matrix product that picks each segment's last row: the one-hot rows times the ends, against the block `v`
    with a column of ones behind. -/
def picked (seg : IVec S1024x1 32) (v : FVec Ideal S1024x257 .f32) : FVec Ideal S512x258 .f32 :=
  matmul dot_S1024x512_S1024x258_S512x258_0_0_1_1_n_n none
    (mulf (k0_pay20 (F := Ideal) seg) (broadcastTo S1024x512 (ends seg) broadcasts_S1024x1_S1024x512))
    (concatenate S1024x258 1 [⟨S1024x257, v⟩, ⟨S1024x1, k0_pay21 (F := Ideal)⟩] concatenates_S1024x257_S1024x1_S1024x258_d1)
    (constant S512x258 .f32 0x00000000#32)

/-- The body's picked rows are those of the late combinations. -/
theorem pay22_eq (seg : IVec S1024x1 32) (v32 v40 : FVec Ideal S1024x257 .f32) (v41 : IVec S1024x1 1) :
    k0_pay22 seg (k0_pay18 seg v32 v40 v41) (k0_pay19 seg v32 v40 v41) = picked seg (late seg (k0_pay18 seg v32 v40 v41)) := rfl

/-- A comparison's bit as a number. -/
theorem bit_eq (p : Bool) : (FloatOps.sitofp (F := Ideal) FTy.f32 (BitVec.setWidth 32 (BitVec.ofBool p)) : EReal) = if p then 1 else 0 := by
  cases p <;> simp [FloatOps.sitofp]

/-- The one-hot entry of row `r` and segment `g`. -/
theorem onehot_apply (seg : IVec S1024x1 32) (r : Fin 1024) (g : Fin 512) :
    k0_pay20 (F := Ideal) seg (ix2 r g) = if seg (ix2 r 0) = BitVec.ofNat 32 g.val then (1 : EReal) else 0 := by
  unfold k0_pay20
  pointwise
  refine (bit_eq _).trans ?_
  by_cases h : seg (ix2 r 0) = BitVec.ofNat 32 g.val
  · simp [h]
  · have hb : (BitVec.ofNat 32 g.val == seg (ix2 r 0)) = false := by simpa using fun e => h e.symm
    simp [hb, h]

/-- The end mark of row `r`. -/
theorem ends_apply (seg : IVec S1024x1 32) (r : Fin 1024) :
    ends seg (ix2 r 0)
      = if seg (ix2 r 0) ≠ Doubling.next (fun q => seg (ix2 q 0)) r then (1 : EReal) else 0 := by
  unfold ends
  pointwise
  have hn : (if h : r.val < 1023 then seg (ix2 (⟨1 + r.val, by omega⟩ : Fin 1024) 0) else 4294967294#32)
      = Doubling.next (fun q => seg (ix2 q 0)) r := by
    unfold Doubling.next
    split
    · exact congrArg (fun q => seg (ix2 q 0)) (Fin.ext (Nat.add_comm _ _))
    · rfl
  rw [hn]
  refine (bit_eq _).trans ?_
  generalize Doubling.next _ r = y
  by_cases h : seg (ix2 r 0) = y
  · simp [h]
  · have hb : (seg (ix2 r 0) != y) = true := by simpa using h
    simp [hb, h]

/-- The picked value of segment `g` in column `l`; the last column counts the picked rows. -/
theorem picked_apply (seg : IVec S1024x1 32) (v : FVec Ideal S1024x257 .f32) (g : Fin 512) (l : Fin 258) :
    picked seg v (ix2 g l)
      = ∑ r : Fin 1024, ((if seg (ix2 r 0) = BitVec.ofNat 32 g.val then (1 : EReal) else 0)
          * (if seg (ix2 r 0) ≠ Doubling.next (fun q => seg (ix2 q 0)) r then 1 else 0))
          * (if h : l.val < 257 then v (ix2 r ⟨l.val, h⟩) else 1) := by
  unfold picked
  simp only [← ends_apply, ← onehot_apply]
  generalize ends seg = e
  generalize k0_pay20 (F := Ideal) seg = w
  pointwise
  refine Finset.sum_congr rfl fun r _ => congrArg (w (ix2 r g) * e (ix2 r 0) * ·) ?_
  split
  · rfl
  · unfold k0_pay21
    pointwise

/-- The count of picked rows. -/
theorem picked_last (seg : IVec S1024x1 32) (v : FVec Ideal S1024x257 .f32) (g : Fin 512) :
    picked seg v (ix2 g 257)
      = ∑ r : Fin 1024, ((if seg (ix2 r 0) = BitVec.ofNat 32 g.val then (1 : EReal) else 0)
          * (if seg (ix2 r 0) ≠ Doubling.next (fun q => seg (ix2 q 0)) r then 1 else 0)) * 1 := by
  rw [picked_apply]
  exact Finset.sum_congr rfl fun r _ => congrArg _ (dif_neg (by decide))

/-- The picked value in a column of the block. -/
theorem picked_left (seg : IVec S1024x1 32) (v : FVec Ideal S1024x257 .f32) (g : Fin 512) (l : Fin 257) :
    picked seg v (ix2 g ⟨l.val, by omega⟩)
      = ∑ r : Fin 1024, ((if seg (ix2 r 0) = BitVec.ofNat 32 g.val then (1 : EReal) else 0)
          * (if seg (ix2 r 0) ≠ Doubling.next (fun q => seg (ix2 q 0)) r then 1 else 0)) * v (ix2 r l) := by
  rw [picked_apply]
  exact Finset.sum_congr rfl fun r _ => congrArg _ (dif_pos l.isLt)

end Cert.Roll
-- ==== Proof.Scale.lean ====
/-
  The running softmax of one segment over the extended reals. `Ideal.exp` of a score minus a running maximum is a
  real between 0 and 1; rescaling it by the factor the kernel uses moves it from one running maximum to a larger one.
  So a weighted sum kept at a running maximum can be moved to a larger maximum by one multiplication.
-/
module

public import Idealize.ShloMosaic.PureOps.Ideal.Laws

@[expose] public section

noncomputable section

namespace Cert.Scale

open Idealize.ShloMosaic

/-- The factor that moves a weight from the running maximum `M` to `M'`: one while nothing has been seen (`M = ⊥`). -/
def sc (M M' : EReal) : EReal := if M = ⊥ then 1 else Ideal.exp (M - M')

/-- The exponential is never negative. -/
theorem exp_nonneg (a : EReal) : 0 ≤ Ideal.exp a := by
  induction a with
  | bot => exact le_refl _
  | top => exact le_top
  | coe r => exact EReal.coe_nonneg.mpr (Real.exp_pos r).le

/-- The exponential of anything but `⊤` is not `⊤`. -/
theorem exp_ne_top {a : EReal} (h : a ≠ ⊤) : Ideal.exp a ≠ ⊤ := by
  induction a with
  | bot => exact EReal.zero_ne_top
  | top => exact absurd rfl h
  | coe r => exact EReal.coe_ne_top _

/-- A score minus an upper bound of it is not `⊤`. -/
theorem sub_ne_top {g M : EReal} (h : g ≤ M) : g - M ≠ ⊤ := by
  intro e
  have h0 := EReal.sub_nonpos.mpr h
  rw [e] at h0
  exact absurd h0 (by simp)

/-- The factor is not negative. -/
theorem sc_nonneg (M M' : EReal) : 0 ≤ sc M M' := by
  unfold sc
  split
  · exact zero_le_one
  · exact exp_nonneg _

/-- The factor towards a larger maximum is not `⊤`. -/
theorem sc_ne_top {M M' : EReal} (h : M ≤ M') : sc M M' ≠ ⊤ := by
  unfold sc
  split
  · exact EReal.coe_ne_top 1
  · exact exp_ne_top (sub_ne_top h)

/-- A weight at the running maximum `M`, rescaled, is the weight at the larger maximum `M'`. -/
theorem exp_mul_sc {g M M' : EReal} (hg : g ≤ M) (hM : M ≤ M') :
    Ideal.exp (g - M) * sc M M' = Ideal.exp (g - M') := by
  unfold sc
  split
  · rename_i h
    subst h
    obtain rfl : g = ⊥ := le_bot_iff.mp hg
    rw [mul_one, EReal.bot_sub, EReal.bot_sub]
  · rename_i h
    induction M' with
    | bot => exact absurd (le_bot_iff.mp hM) h
    | top =>
      have e1 : ∀ a : EReal, Ideal.exp (a - ⊤) = 0 := fun a => by
        rw [EReal.sub_top]
        rfl
      rw [e1, e1, mul_zero]
    | coe r' =>
      induction M with
      | bot => exact absurd rfl h
      | top => exact absurd hM (by simp)
      | coe r =>
        induction g with
        | bot =>
          rw [EReal.bot_sub, EReal.bot_sub]
          exact zero_mul _
        | top => exact absurd hg (by simp)
        | coe a =>
          show ((Real.exp (a - r) : ℝ) : EReal) * ((Real.exp (r - r') : ℝ) : EReal) = ((Real.exp (a - r') : ℝ) : EReal)
          rw [← EReal.coe_mul, ← Real.exp_add]
          congr 2
          ring

/-- A nonnegative factor other than `⊤` distributes over a finite sum. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum of weights times values kept at the maximum over `S`, rescaled and extended by the disjoint set `T`, is the
    sum over both sets at the maximum over both. -/
theorem weighted_step {ι : Type*} [DecidableEq ι] (S T : Finset ι) (hd : Disjoint S T) (g x : ι → EReal) :
    (∑ i ∈ S, Ideal.exp (g i - S.sup g) * x i) * sc (S.sup g) (max (S.sup g) (T.sup g))
      + ∑ i ∈ T, Ideal.exp (g i - max (S.sup g) (T.sup g)) * x i
    = ∑ i ∈ S ∪ T, Ideal.exp (g i - (S ∪ T).sup g) * x i := by
  have hm : S.sup g ≤ max (S.sup g) (T.sup g) := le_max_left _ _
  rw [Finset.sup_union, Finset.sum_union hd, sum_mul_of_nonneg _ _ (sc_nonneg _ _) (sc_ne_top hm)]
  congr 1
  refine Finset.sum_congr rfl fun i hi => ?_
  rw [mul_right_comm, exp_mul_sc (Finset.le_sup hi) hm]

/-- The same for the sum of the weights alone. -/
theorem weight_step {ι : Type*} [DecidableEq ι] (S T : Finset ι) (hd : Disjoint S T) (g : ι → EReal) :
    (∑ i ∈ S, Ideal.exp (g i - S.sup g)) * sc (S.sup g) (max (S.sup g) (T.sup g))
      + ∑ i ∈ T, Ideal.exp (g i - max (S.sup g) (T.sup g))
    = ∑ i ∈ S ∪ T, Ideal.exp (g i - (S ∪ T).sup g) := by
  have h := weighted_step S T hd g fun _ => 1
  simpa only [mul_one] using h

/-- The word of the constant `1e-16` denotes a positive real. -/
theorem eps_pos : ∃ e : ℝ, 0 < e ∧ Ideal.ofBits .f32 0x24E69595#32 = (e : EReal) := by
  refine ⟨1 * ((2 ^ 23 + 6722965 : ℕ) : ℝ) * (2 : ℝ) ^ ((73 : ℤ) - (2 ^ (8 - 1) - 1) - 23), by positivity, ?_⟩
  show Ideal.ieee 8 23 (0x24E69595#32) = _
  have h1 : (BitVec.extractLsb' 23 8 (0x24E69595#32)).toNat = 73 := by decide
  have h2 : (BitVec.extractLsb' 0 23 (0x24E69595#32)).toNat = 6722965 := by decide
  have h3 : (BitVec.extractLsb' (8 + 23) 1 (0x24E69595#32) == 1#1) = false := by decide
  unfold Ideal.ieee
  simp only [h1, h2, h3]
  norm_num

/-- A sum of weights at the maximum is a nonnegative real. -/
theorem weights_real {ι : Type*} (S : Finset ι) (g : ι → EReal) :
    ∃ r : ℝ, 0 ≤ r ∧ ∑ i ∈ S, Ideal.exp (g i - S.sup g) = (r : EReal) := by
  classical
  have key : ∀ T : Finset ι, T ⊆ S → ∃ r : ℝ, 0 ≤ r ∧ ∑ i ∈ T, Ideal.exp (g i - S.sup g) = (r : EReal) := by
    intro T
    induction T using Finset.induction_on with
    | empty => exact fun _ => ⟨0, le_refl _, by simp⟩
    | insert a T ha ih =>
      intro hT
      obtain ⟨r, hr, e⟩ := ih (fun x hx => hT (Finset.mem_insert_of_mem hx))
      have hle : g a ≤ S.sup g := Finset.le_sup (hT (Finset.mem_insert_self a T))
      have hne := exp_ne_top (sub_ne_top hle)
      have h0 := exp_nonneg (g a - S.sup g)
      lift Ideal.exp (g a - S.sup g) to ℝ using ⟨hne, ne_of_gt (lt_of_lt_of_le EReal.bot_lt_zero h0)⟩ with q hq
      refine ⟨q + r, add_nonneg (EReal.coe_nonneg.mp h0) hr, ?_⟩
      rw [Finset.sum_insert ha, e, ← hq, EReal.coe_add]
  exact key S (fun _ h => h)

/-- Dividing the weighted sum by the sum of the weights plus `1e-16` is weighting by the divided weights. -/
theorem div_weights {ι : Type*} (S : Finset ι) (g x : ι → EReal) :
    Ideal.div (∑ i ∈ S, Ideal.exp (g i - S.sup g) * x i)
        (∑ i ∈ S, Ideal.exp (g i - S.sup g) + Ideal.ofBits .f32 0x24E69595#32)
    = ∑ i ∈ S, Ideal.div (Ideal.exp (g i - S.sup g))
        (∑ i ∈ S, Ideal.exp (g i - S.sup g) + Ideal.ofBits .f32 0x24E69595#32) * x i := by
  obtain ⟨e, he, hee⟩ := eps_pos
  obtain ⟨r, hr, hre⟩ := weights_real S g
  have hp : 0 < r + e := by linarith
  rw [hee, hre, ← EReal.coe_add]
  simp only [Ideal.div_coe (ne_of_gt hp)]
  rw [sum_mul_of_nonneg _ _ (EReal.coe_nonneg.mpr (by positivity)) (EReal.coe_ne_top _)]
  exact Finset.sum_congr rfl fun i _ => mul_right_comm _ _ _

end Cert.Scale
-- ==== Proof.Readout.lean ====
/-
  The numbers both programs are about: one row's attention gate, and the readout of one segment.
-/
module

public import proofs.«01_k».proof.Proof.Scale

@[expose] public section

noncomputable section

namespace Cert.Readout

open Idealize.ShloMosaic

/-- The hidden unit `k` of one row: the row times column `k` of the first weights, plus the bias. -/
def hidden (x : Fin 256 → EReal) (w1 : Fin 256 → Fin 256 → EReal) (b1 : Fin 256 → EReal) (k : Fin 256) : EReal :=
  (∑ l, x l * w1 l k) + b1 k

/-- The gate of one row: its hidden units, each times its own logistic, times the second weights, plus the bias. -/
def gate (x : Fin 256 → EReal) (w1 : Fin 256 → Fin 256 → EReal) (b1 w2 : Fin 256 → EReal) (b2 : EReal) : EReal :=
  (∑ k, (hidden x w1 b1 k * Ideal.logistic (hidden x w1 b1 k)) * w2 k) + b2

end Cert.Readout
-- ==== Proof.Block.lean ====
/-
  What the kernel computes from one block of 1024 rows: each row's gate, each segment's column maxima over its rows in
  the block, the new running maximum of the gates with its scale, and each segment's sums over its rows in the block.
-/
module

public import proofs.«01_k».proof.Proof.Roll
public import proofs.«01_k».proof.Proof.Readout
public import Idealize.ShloMosaic.Lib.IdealHost

@[expose] public section

set_option maxRecDepth 16384

noncomputable section

namespace Cert.Block

open Idealize.ShloMosaic Cert.KernelIdeal Cert.KernelIdeal.Gen

/-- The word of segment `g`. -/
abbrev word (g : Fin 512) : BitVec 32 := BitVec.ofNat 32 g.val

/-- A block's segment words, row by row. -/
abbrev segs (sg : IVec S1024x1 32) : Fin 1024 → BitVec 32 := fun r => sg (ix2 r 0)

/-- The rows of the block that belong to segment `g`. -/
abbrev rows (sg : IVec S1024x1 32) (g : Fin 512) : Finset (Fin 1024) := Doubling.rows (segs sg) (word g)

/-- No segment's word is the -2 that closes a block. -/
theorem word_ne_pad (g : Fin 512) : word g ≠ 4294967294#32 := by
  intro h
  have := congrArg BitVec.toNat h
  have hg := g.isLt
  simp [word] at this
  omega

/-- The gates of a block's rows. -/
theorem gate_apply (v3 : Vec Ideal S1024x256 .f32) (v7 : Vec Ideal S256x256 .f32) (v9 : Vec Ideal S1x256 .f32)
    (v15 : Vec Ideal S256x1 .f32) (v17 : Vec Ideal S1x1 .f32) (r : Fin 1024) :
    k0_pay14 v3 v7 v9 v15 v17 (ix2 r 0)
      = Readout.gate (fun l => v3 (ix2 r l)) (fun l k => v7 (ix2 l k)) (fun k => v9 (ix2 0 k)) (fun k => v15 (ix2 k 0)) (v17 (ix2 0 0)) := by
  unfold k0_pay14 k0_pay12 Readout.gate Readout.hidden
  pointwise

/-- The starting block: the row's features, then its gate. -/
theorem start_apply (v3 : Vec Ideal S1024x256 .f32) (v7 : Vec Ideal S256x256 .f32) (v9 : Vec Ideal S1x256 .f32)
    (v15 : Vec Ideal S256x1 .f32) (v17 : Vec Ideal S1x1 .f32) (r : Fin 1024) (l : Fin 257) :
    Roll.start v3 v7 v9 v15 v17 (ix2 r l)
      = if h : l.val < 256 then v3 (ix2 r ⟨l.val, h⟩) else k0_pay14 v3 v7 v9 v15 v17 (ix2 r 0) := by
  unfold Roll.start k0_pay12
  generalize k0_pay14 v3 v7 v9 v15 v17 = gt
  pointwise
  split
  · rfl
  · exact congrArg (fun q => gt (ix2 r q)) (Subsingleton.elim _ _)

/-- The named constant of the masked maxima is `⊥`. -/
theorem neg_eq : (Named.named (F := Ideal) (φ := .f32) κ "neg" 0xF149F2CA#32 : EReal) = ⊥ :=
  IdealRules.named_const.ideal_named_scalar _ _ _ _ rfl

/-- The picked rows of a block. -/
def pk (sg : IVec S1024x1 32) (x : Vec Ideal S1024x256 .f32) (w1 : Vec Ideal S256x256 .f32) (b1 : Vec Ideal S1x256 .f32)
    (w2 : Vec Ideal S256x1 .f32) (b2 : Vec Ideal S1x1 .f32) : FVec Ideal S512x258 .f32 :=
  Roll.picked (k0_pay13 (F := Ideal) sg)
    (Roll.late (k0_pay13 (F := Ideal) sg) (Roll.early (k0_pay13 (F := Ideal) sg) (Roll.start x w1 b1 w2 b2)))

/-- The column of words passes through unchanged. -/
theorem seg_eq (sg : IVec S1024x1 32) : k0_pay13 (F := Ideal) sg = sg := by
  unfold k0_pay13
  exact shapeCast_self _ _

/-- The body's picked rows, from the values it names. -/
theorem pay22_pk (sg : Vec Ideal S1024x1 .i32) (x : Vec Ideal S1024x256 .f32) (w1 : Vec Ideal S256x256 .f32) (b1 : Vec Ideal S1x256 .f32)
    (w2 : Vec Ideal S256x1 .f32) (b2 : Vec Ideal S1x1 .f32) :
    k0_pay22 (k0_pay13 (F := Ideal) sg)
      (k0_pay18 (k0_pay13 (F := Ideal) sg) (k0_pay15 x sg w1 b1 w2 b2) (k0_pay16 x sg w1 b1 w2 b2) (k0_pay17 (F := Ideal) sg))
      (k0_pay19 (k0_pay13 (F := Ideal) sg) (k0_pay15 x sg w1 b1 w2 b2) (k0_pay16 x sg w1 b1 w2 b2) (k0_pay17 (F := Ideal) sg))
      = pk sg x w1 b1 w2 b2 := rfl

/-- The picked rows, masked by the count of picked rows, hold each segment's maxima over its rows in the block. -/
theorem pk_max (sg : IVec S1024x1 32) (x : Vec Ideal S1024x256 .f32) (w1 : Vec Ideal S256x256 .f32) (b1 : Vec Ideal S1x256 .f32)
    (w2 : Vec Ideal S256x1 .f32) (b2 : Vec Ideal S1x1 .f32) (g : Fin 512) (ht : Doubling.Together (segs sg) (word g)) (l : Fin 257) :
    (if 0 < pk sg x w1 b1 w2 b2 (ix2 g 257) then pk sg x w1 b1 w2 b2 (ix2 g ⟨l.val, by omega⟩) else ⊥)
      = (rows sg g).sup fun r => Roll.start x w1 b1 w2 b2 (ix2 r l) := by
  have h := Doubling.picked_max ht (word_ne_pad g) fun r => Roll.start x w1 b1 w2 b2 (ix2 r l)
  rw [← h]
  unfold pk
  rw [seg_eq, Roll.picked_last, Roll.picked_left]
  simp only [Roll.late_early_apply]

/-- The block's maxima of the features. -/
theorem pay24_apply (seg : IVec S1024x1 32) (v98 v101 : FVec Ideal S1024x257 .f32) (g : Fin 512) (d : Fin 256) :
    k0_pay24 seg v98 v101 (ix2 g d)
      = if 0 < k0_pay22 seg v98 v101 (ix2 g 257) then k0_pay22 seg v98 v101 (ix2 g ⟨d.val, by omega⟩) else ⊥ := by
  unfold k0_pay24 k0_pay23
  generalize k0_pay22 seg v98 v101 = p
  pointwise
  rw [neg_eq]

/-- The new running maximum of the gates. -/
theorem pay25_apply (p : FVec Ideal S512x258 .f32) (q v161 : FVec Ideal S512x1 .f32) (g : Fin 512) :
    k0_pay25 p q (Scalar.ofBits .f32 0#32) v161 (ix2 g 0)
      = max (v161 (ix2 g 0)) (if 0 < q (ix2 g 0) then p (ix2 g 256) else ⊥) := by
  unfold k0_pay25
  pointwise
  rw [neg_eq]

/-- The scale of the old sums. -/
theorem pay26_apply (p : FVec Ideal S512x258 .f32) (q v161 : FVec Ideal S512x1 .f32) (c : EReal) (g : Fin 512) :
    k0_pay26 (F := Ideal) p q c v161 (ix2 g 0) = Scale.sc (v161 (ix2 g 0)) (k0_pay25 (F := Ideal) p q c v161 (ix2 g 0)) := by
  unfold k0_pay26
  generalize k0_pay25 (F := Ideal) p q c v161 = m
  pointwise
  rw [neg_eq]
  rfl

/-- A one-hot sum over a block's rows is the sum over the segment's rows. -/
theorem onehot_sum (sg : IVec S1024x1 32) (g : Fin 512) (y : Fin 1024 → EReal) :
    ∑ r : Fin 1024, k0_pay20 (F := Ideal) sg (ix2 r g) * y r = ∑ r ∈ rows sg g, y r := by
  unfold rows Doubling.rows
  rw [Finset.sum_filter]
  refine Finset.sum_congr rfl fun r _ => ?_
  rw [Roll.onehot_apply, ite_mul, one_mul, zero_mul]

/-- A one-hot sum over the segments reads the value of the row's own segment. -/
theorem onehot_read (sg : IVec S1024x1 32) (g : Fin 512) (r : Fin 1024) (hr : r ∈ rows sg g) (y : Fin 512 → EReal) :
    ∑ q : Fin 512, k0_pay20 (F := Ideal) sg (ix2 r q) * y q = y g := by
  have hs : sg (ix2 r 0) = word g := Doubling.mem_rows.mp hr
  rw [Finset.sum_eq_single g]
  · rw [Roll.onehot_apply, if_pos hs, one_mul]
  · intro q _ hq
    rw [Roll.onehot_apply, if_neg, zero_mul]
    intro h
    refine hq (Fin.ext ?_)
    have h' := congrArg BitVec.toNat (h.symm.trans hs)
    have h1 := q.isLt
    have h2 := g.isLt
    simp only [word, BitVec.toNat_ofNat] at h'
    omega
  · exact fun h => absurd (Finset.mem_univ g) h

/-- The scattered sums of a block, by column: the features, the weighted features, the number of rows, the weights. -/
theorem pay28_apply (v4 : FVec Ideal S1024x256 .f32) (v20 : FVec Ideal S1024x1 .f32) (sg : IVec S1024x1 32)
    (p : FVec Ideal S512x258 .f32) (q v161 : FVec Ideal S512x1 .f32) (c : EReal) (g : Fin 512) (l : Fin 514) :
    k0_pay28 (F := Ideal) v4 v20 (k0_pay20 (F := Ideal) sg) (k0_pay21 (F := Ideal)) p q c v161 (ix2 g l)
      = ∑ r ∈ rows sg g,
          if h : l.val < 256 then v4 (ix2 r ⟨l.val, h⟩)
          else if h : l.val - 256 < 256 then
            Ideal.exp (v20 (ix2 r 0) - k0_pay25 (F := Ideal) p q c v161 (ix2 g 0)) * v4 (ix2 r ⟨l.val - 256, h⟩)
          else if l.val - 256 - 256 < 1 then 1
          else Ideal.exp (v20 (ix2 r 0) - k0_pay25 (F := Ideal) p q c v161 (ix2 g 0)) := by
  unfold k0_pay28
  generalize k0_pay25 (F := Ideal) p q c v161 = m
  have hw := onehot_sum sg g
  have hr := onehot_read sg g
  generalize k0_pay20 (F := Ideal) sg = w at hw hr
  pointwise
  refine (hw _).trans (Finset.sum_congr rfl fun r hm => ?_)
  have h0 : ∀ k : Fin 1, k = 0 := fun k => Subsingleton.elim _ _
  simp only [h0, hr r hm fun q => m (ix2 q 0)]
  split
  · rfl
  · split
    · rfl
    · split
      · unfold k0_pay21
        pointwise
      · rfl

end Cert.Block
-- ==== Proof.Step.lean ====
/-
  The values the kernel's body stores at one grid point, read at an index: every stored value is the old value combined
  with the block's contribution to that segment; and the values of the last point, from what the sweep has accumulated.
-/
module

public import proofs.«01_k».proof.Proof.Block

@[expose] public section

set_option maxRecDepth 16384

noncomputable section

namespace Cert.Step

open Idealize.ShloMosaic Cert.KernelIdeal Cert.KernelIdeal.Gen Cert.Block

variable (sg : Vec Ideal S1024x1 .i32) (x : Vec Ideal S1024x256 .f32) (w1 : Vec Ideal S256x256 .f32)
  (b1 : Vec Ideal S1x256 .f32) (w2 : Vec Ideal S256x1 .f32) (b2 : Vec Ideal S1x1 .f32)

/-- The block after the combination distances up to 64. -/
abbrev v98 : FVec Ideal S1024x257 .f32 :=
  k0_pay18 (k0_pay13 (F := Ideal) sg) (k0_pay15 x sg w1 b1 w2 b2) (k0_pay16 x sg w1 b1 w2 b2) (k0_pay17 (F := Ideal) sg)

/-- That block rolled by 128 rows. -/
abbrev v101 : FVec Ideal S1024x257 .f32 :=
  k0_pay19 (k0_pay13 (F := Ideal) sg) (k0_pay15 x sg w1 b1 w2 b2) (k0_pay16 x sg w1 b1 w2 b2) (k0_pay17 (F := Ideal) sg)

/-- The picked rows. -/
abbrev v147 : FVec Ideal S512x258 .f32 := k0_pay22 (k0_pay13 (F := Ideal) sg) (v98 sg x w1 b1 w2 b2) (v101 sg x w1 b1 w2 b2)

/-- The count of picked rows. -/
abbrev v148 : FVec Ideal S512x1 .f32 := k0_pay23 (k0_pay13 (F := Ideal) sg) (v98 sg x w1 b1 w2 b2) (v101 sg x w1 b1 w2 b2)

/-- The gates of the block's rows. -/
abbrev gates (r : Fin 1024) : EReal := k0_pay14 x w1 b1 w2 b2 (ix2 r 0)

/-- The running maximum of the gates of segment `g` after the block, from the one before. -/
def top (old : EReal) (g : Fin 512) : EReal := max old ((rows sg g).sup (gates x w1 b1 w2 b2))

variable (old : FVec Ideal S512x1 .f32) (g : Fin 512)

/-- The count of the ends of runs is the last column of the picked rows. -/
theorem v148_apply : v148 sg x w1 b1 w2 b2 (ix2 g 0) = pk sg x w1 b1 w2 b2 (ix2 g 257) := by
  unfold v148 k0_pay23
  rw [show k0_pay22 (k0_pay13 (F := Ideal) sg) (v98 sg x w1 b1 w2 b2) (v101 sg x w1 b1 w2 b2) = pk sg x w1 b1 w2 b2 from rfl]
  generalize pk sg x w1 b1 w2 b2 = p
  pointwise

/-- The new running maximum. -/
theorem top_apply (ht : Doubling.Together (segs sg) (word g)) :
    k0_pay25 (F := Ideal) (v147 sg x w1 b1 w2 b2) (v148 sg x w1 b1 w2 b2) (FloatOps.ofBits FTy.f32 0#32) old (ix2 g 0)
      = top sg x w1 b1 w2 b2 (old (ix2 g 0)) g := by
  refine (pay25_apply _ _ _ g).trans ?_
  rw [v148_apply]
  refine congrArg (max (old (ix2 g 0))) ((pk_max sg x w1 b1 w2 b2 g ht 256).trans ?_)
  exact Finset.sup_congr rfl fun r _ => (start_apply _ _ _ _ _ r 256).trans (dif_neg (by decide))

/-- The block's feature maxima. -/
theorem bmax_apply (ht : Doubling.Together (segs sg) (word g)) (d : Fin 256) :
    k0_pay24 (k0_pay13 (F := Ideal) sg) (v98 sg x w1 b1 w2 b2) (v101 sg x w1 b1 w2 b2) (ix2 g d)
      = (rows sg g).sup fun r => x (ix2 r d) := by
  refine (pay24_apply _ _ _ g d).trans ?_
  refine (pk_max sg x w1 b1 w2 b2 g ht ⟨d.val, by omega⟩).trans ?_
  exact Finset.sup_congr rfl fun r _ => (start_apply _ _ _ _ _ r _).trans (dif_pos d.isLt)

/-- The block's scattered sums, as the body computes them. -/
abbrev v178 : FVec Ideal S512x514 .f32 :=
  k0_pay28 (k0_pay12 x) (k0_pay14 x w1 b1 w2 b2) (k0_pay20 (F := Ideal) (k0_pay13 (F := Ideal) sg)) (k0_pay21 (F := Ideal))
    (v147 sg x w1 b1 w2 b2) (v148 sg x w1 b1 w2 b2) (FloatOps.ofBits FTy.f32 0#32) old

/-- The block of features passes through unchanged. -/
theorem x_eq : k0_pay12 (F := Ideal) x = x := by
  unfold k0_pay12
  exact shapeCast_self _ _

/-- The rows' products with the segment's mask, column by column. -/
theorem v178_apply (ht : Doubling.Together (segs sg) (word g)) (l : Fin 514) :
    v178 sg x w1 b1 w2 b2 old (ix2 g l)
      = ∑ r ∈ rows sg g,
          if h : l.val < 256 then x (ix2 r ⟨l.val, h⟩)
          else if h : l.val - 256 < 256 then
            Ideal.exp (gates x w1 b1 w2 b2 r - top sg x w1 b1 w2 b2 (old (ix2 g 0)) g) * x (ix2 r ⟨l.val - 256, h⟩)
          else if l.val - 256 - 256 < 1 then 1
          else Ideal.exp (gates x w1 b1 w2 b2 r - top sg x w1 b1 w2 b2 (old (ix2 g 0)) g) := by
  refine (congrArg (fun s => k0_pay28 (F := Ideal) (k0_pay12 x) (k0_pay14 x w1 b1 w2 b2) (k0_pay20 (F := Ideal) s) (k0_pay21 (F := Ideal))
    (v147 sg x w1 b1 w2 b2) (v148 sg x w1 b1 w2 b2) (FloatOps.ofBits FTy.f32 0#32) old (ix2 g l)) (seg_eq sg)).trans ?_
  rw [pay28_apply, top_apply sg x w1 b1 w2 b2 old g ht, x_eq]

/-- The scale of the old sums. -/
theorem scale_apply (ht : Doubling.Together (segs sg) (word g)) :
    k0_pay26 (F := Ideal) (v147 sg x w1 b1 w2 b2) (v148 sg x w1 b1 w2 b2) (FloatOps.ofBits FTy.f32 0#32) old (ix2 g 0)
      = Scale.sc (old (ix2 g 0)) (top sg x w1 b1 w2 b2 (old (ix2 g 0)) g) := by
  rw [pay26_apply, top_apply sg x w1 b1 w2 b2 old g ht]

/-- The stored maximum. -/
theorem store_top (ht : Doubling.Together (segs sg) (word g)) :
    k0_pay27 (F := Ideal) (v147 sg x w1 b1 w2 b2) (v148 sg x w1 b1 w2 b2) (FloatOps.ofBits FTy.f32 0#32) old (ix2 g 0)
      = top sg x w1 b1 w2 b2 (old (ix2 g 0)) g := by
  rw [← top_apply sg x w1 b1 w2 b2 old g ht]
  unfold k0_pay27
  rw [shapeCast_self]

/-- The stored count of rows. -/
theorem store_count (ht : Doubling.Together (segs sg) (word g)) (c : FVec Ideal S512x1 .f32) :
    k0_pay1 (F := Ideal) (v178 sg x w1 b1 w2 b2 old) c (ix2 g 0) = c (ix2 g 0) + ∑ _r ∈ rows sg g, 1 := by
  have h := v178_apply sg x w1 b1 w2 b2 old g ht 512
  unfold k0_pay1
  generalize v178 sg x w1 b1 w2 b2 old = s at h
  pointwise
  refine congrArg (c (ix2 g 0) + ·) (h.trans (Finset.sum_congr rfl fun r _ => ?_))
  rw [dif_neg (by decide), dif_neg (by decide), if_pos (by decide)]

/-- The stored sum of weights. -/
theorem store_denom (ht : Doubling.Together (segs sg) (word g)) (c : FVec Ideal S512x1 .f32) :
    k0_pay2 (F := Ideal) (k0_pay26 (F := Ideal) (v147 sg x w1 b1 w2 b2) (v148 sg x w1 b1 w2 b2) (FloatOps.ofBits FTy.f32 0#32) old)
        (v178 sg x w1 b1 w2 b2 old) c (ix2 g 0)
      = c (ix2 g 0) * Scale.sc (old (ix2 g 0)) (top sg x w1 b1 w2 b2 (old (ix2 g 0)) g)
        + ∑ r ∈ rows sg g, Ideal.exp (gates x w1 b1 w2 b2 r - top sg x w1 b1 w2 b2 (old (ix2 g 0)) g) := by
  have h := v178_apply sg x w1 b1 w2 b2 old g ht 513
  have hs := scale_apply sg x w1 b1 w2 b2 old g ht
  unfold k0_pay2
  generalize v178 sg x w1 b1 w2 b2 old = s at h
  generalize k0_pay26 (F := Ideal) (v147 sg x w1 b1 w2 b2) (v148 sg x w1 b1 w2 b2) (FloatOps.ofBits FTy.f32 0#32) old = z at hs
  pointwise
  rw [hs]
  refine congrArg (c (ix2 g 0) * Scale.sc (old (ix2 g 0)) (top sg x w1 b1 w2 b2 (old (ix2 g 0)) g) + ·)
    (h.trans (Finset.sum_congr rfl fun r _ => ?_))
  rw [dif_neg (by decide), dif_neg (by decide), if_neg (by decide)]

/-- The stored feature sum. -/
theorem store_sum (ht : Doubling.Together (segs sg) (word g)) (v : FVec Ideal S512x256 .f32) (d : Fin 256) :
    k0_pay29 (F := Ideal) (k0_pay12 x) (k0_pay14 x w1 b1 w2 b2) (k0_pay20 (F := Ideal) (k0_pay13 (F := Ideal) sg)) (k0_pay21 (F := Ideal))
        (v147 sg x w1 b1 w2 b2) (v148 sg x w1 b1 w2 b2) (FloatOps.ofBits FTy.f32 0#32) old v (ix2 g d)
      = v (ix2 g d) + ∑ r ∈ rows sg g, x (ix2 r d) := by
  have h := v178_apply sg x w1 b1 w2 b2 old g ht ⟨d.val, by omega⟩
  unfold k0_pay29
  unfold v178 at h
  generalize k0_pay28 (F := Ideal) (k0_pay12 x) (k0_pay14 x w1 b1 w2 b2) (k0_pay20 (F := Ideal) (k0_pay13 (F := Ideal) sg)) (k0_pay21 (F := Ideal))
    (v147 sg x w1 b1 w2 b2) (v148 sg x w1 b1 w2 b2) (FloatOps.ofBits FTy.f32 0#32) old = s at h ⊢
  pointwise
  refine congrArg (v (ix2 g d) + ·) (h.trans (Finset.sum_congr rfl fun r _ => ?_))
  rw [dif_pos d.isLt]

/-- The stored feature maximum. -/
theorem store_max (ht : Doubling.Together (segs sg) (word g)) (v : FVec Ideal S512x256 .f32) (d : Fin 256) :
    k0_pay30 (F := Ideal) (k0_pay24 (k0_pay13 (F := Ideal) sg) (v98 sg x w1 b1 w2 b2) (v101 sg x w1 b1 w2 b2)) v (ix2 g d)
      = max (v (ix2 g d)) ((rows sg g).sup fun r => x (ix2 r d)) := by
  have h := bmax_apply sg x w1 b1 w2 b2 g ht d
  unfold k0_pay30
  generalize k0_pay24 (k0_pay13 (F := Ideal) sg) (v98 sg x w1 b1 w2 b2) (v101 sg x w1 b1 w2 b2) = s at h
  pointwise
  rw [h]

/-- The stored weighted feature sum. -/
theorem store_weighted (ht : Doubling.Together (segs sg) (word g)) (v : FVec Ideal S512x256 .f32) (d : Fin 256) :
    k0_pay31 (F := Ideal) (k0_pay12 x) (k0_pay14 x w1 b1 w2 b2) (k0_pay20 (F := Ideal) (k0_pay13 (F := Ideal) sg)) (k0_pay21 (F := Ideal))
        (v147 sg x w1 b1 w2 b2) (v148 sg x w1 b1 w2 b2) (FloatOps.ofBits FTy.f32 0#32) old v (ix2 g d)
      = v (ix2 g d) * Scale.sc (old (ix2 g 0)) (top sg x w1 b1 w2 b2 (old (ix2 g 0)) g)
        + ∑ r ∈ rows sg g, Ideal.exp (gates x w1 b1 w2 b2 r - top sg x w1 b1 w2 b2 (old (ix2 g 0)) g) * x (ix2 r d) := by
  have h := v178_apply sg x w1 b1 w2 b2 old g ht ⟨256 + d.val, by omega⟩
  have hs := scale_apply sg x w1 b1 w2 b2 old g ht
  unfold k0_pay31
  unfold v178 at h
  generalize k0_pay28 (F := Ideal) (k0_pay12 x) (k0_pay14 x w1 b1 w2 b2) (k0_pay20 (F := Ideal) (k0_pay13 (F := Ideal) sg)) (k0_pay21 (F := Ideal))
    (v147 sg x w1 b1 w2 b2) (v148 sg x w1 b1 w2 b2) (FloatOps.ofBits FTy.f32 0#32) old = s at h ⊢
  generalize k0_pay26 (F := Ideal) (v147 sg x w1 b1 w2 b2) (v148 sg x w1 b1 w2 b2) (FloatOps.ofBits FTy.f32 0#32) old = z at hs
  pointwise
  rw [hs]
  refine congrArg (v (ix2 g d) * Scale.sc (old (ix2 g 0)) (top sg x w1 b1 w2 b2 (old (ix2 g 0)) g) + ·)
    (h.trans (Finset.sum_congr rfl fun r _ => ?_))
  have e1 : ¬ 256 + d.val < 256 := by omega
  have e2 : 256 + d.val - 256 < 256 := by omega
  rw [dif_neg e1, dif_pos e2]
  refine congrArg (fun k : Fin 256 => _ * x (ix2 r k)) (Fin.ext ?_)
  show 256 + d.val - 256 = d.val
  omega

/-- The mean of the last point. -/
theorem mean_apply (c : FVec Ideal S512x1 .f32) (v : FVec Ideal S512x256 .f32) (d : Fin 256) :
    k0_pay3 (F := Ideal) c v (ix2 g d) = Ideal.div (v (ix2 g d)) (max (c (ix2 g 0)) 1) := by
  unfold k0_pay3
  pointwise

/-- The maximum of the last point: zero for an empty segment. -/
theorem max_apply (c : FVec Ideal S512x1 .f32) (v : FVec Ideal S512x256 .f32) (d : Fin 256) :
    k0_pay4 (F := Ideal) c v (ix2 g d) = if 0 < c (ix2 g 0) then v (ix2 g d) else 0 := by
  unfold k0_pay4
  pointwise

/-- The attention readout of the last point. -/
theorem attention_apply (v : FVec Ideal S512x256 .f32) (c : FVec Ideal S512x1 .f32) (d : Fin 256) :
    k0_pay5 (F := Ideal) v c (ix2 g d) = Ideal.div (v (ix2 g d)) (c (ix2 g 0) + Ideal.ofBits .f32 0x24E69595#32) := by
  unfold k0_pay5
  pointwise

/-- The values the first point starts from. -/
theorem init_sum (d : Fin 256) : k0_pay6 (F := Ideal) (ix2 g d) = 0 := by
  unfold k0_pay6
  pointwise

/-- The maxima start at `⊥`. -/
theorem init_max (d : Fin 256) : k0_pay7 (F := Ideal) (ix2 g d) = ⊥ := by
  unfold k0_pay7
  pointwise
  exact neg_eq

/-- The weighted sums start at 0. -/
theorem init_weighted (d : Fin 256) : k0_pay8 (F := Ideal) (ix2 g d) = 0 := by
  unfold k0_pay8
  pointwise

/-- The counts start at 0. -/
theorem init_count : k0_pay9 (F := Ideal) (ix2 g 0) = 0 := by
  unfold k0_pay9
  pointwise

/-- The sums of exponentials start at 0. -/
theorem init_denom : k0_pay10 (F := Ideal) (ix2 g 0) = 0 := by
  unfold k0_pay10
  pointwise

/-- The largest gates start at `⊥`. -/
theorem init_top : k0_pay11 (F := Ideal) (ix2 g 0) = ⊥ := by
  unfold k0_pay11
  pointwise
  exact neg_eq

end Cert.Step
-- ==== Proof.Segments.lean ====
/-
  The rows of one segment among the first rows of the array, block by block: how a block of 1024 rows adds to the
  segment's count, sums, maxima and exponentially weighted sums.
-/
module

public import proofs.«01_k».proof.Proof.Step
public import proofs.«01_k».proof.Proof.Scale

@[expose] public section

set_option maxRecDepth 16384

noncomputable section

namespace Cert.Segments

open Idealize.ShloMosaic Cert.KernelIdeal Cert.KernelIdeal.Gen Cert.Block Cert.Step

variable (s : Fin 50000 → BitVec 32) (g : Fin 512)

/-- The segment words rise along the rows, read as signed numbers. -/
def Sorted : Prop := ∀ a b : Fin 50000, a ≤ b → (s a).toInt ≤ (s b).toInt

/-- The rows of segment `g`. -/
def members : Finset (Fin 50000) := Finset.univ.filter fun i => s i = word g

/-- The rows of segment `g` among the first `n`. -/
def upto (n : ℕ) : Finset (Fin 50000) := Finset.univ.filter fun i => i.val < n ∧ s i = word g

/-- The rows of segment `g` in block `t`. -/
def piece (t : ℕ) : Finset (Fin 50000) :=
  Finset.univ.filter fun i => (1024 * t ≤ i.val ∧ i.val < 1024 * (t + 1)) ∧ s i = word g

/-- Before the first block a segment has no row. -/
theorem upto_zero : upto s g (1024 * 0) = ∅ := by
  ext i
  simp [upto]

/-- A block adds its own rows of the segment. -/
theorem upto_succ (t : ℕ) : upto s g (1024 * (t + 1)) = upto s g (1024 * t) ∪ piece s g t := by
  ext i
  simp only [upto, piece, Finset.mem_union, Finset.mem_filter, Finset.mem_univ, true_and]
  constructor
  · rintro ⟨h, e⟩
    by_cases hi : i.val < 1024 * t
    · exact Or.inl ⟨hi, e⟩
    · exact Or.inr ⟨⟨by omega, h⟩, e⟩
  · rintro (⟨h, e⟩ | ⟨⟨h, h'⟩, e⟩)
    · exact ⟨by omega, e⟩
    · exact ⟨h', e⟩

/-- A block's rows are not among the earlier ones. -/
theorem upto_disjoint (t : ℕ) : Disjoint (upto s g (1024 * t)) (piece s g t) := by
  rw [Finset.disjoint_left]
  intro i h h'
  simp only [upto, piece, Finset.mem_filter, Finset.mem_univ, true_and] at h h'
  omega

/-- After the last block all the segment's rows are there. -/
theorem upto_last : upto s g (1024 * (48 + 1)) = members s g := by
  ext i
  have := i.isLt
  simp only [upto, members, Finset.mem_filter, Finset.mem_univ, true_and]
  exact ⟨fun h => h.2, fun h => ⟨by omega, h⟩⟩

/-- A block of segment words is the array's rows from `1024 t` on, and the word 512 after the last row. -/
def Holds (t : ℕ) (sg : Vec Ideal S1024x1 .i32) : Prop :=
  ∀ r : Fin 1024, segs sg r = if h : 1024 * t + r.val < 50000 then s ⟨1024 * t + r.val, h⟩ else 512#32

variable {s g} {t : ℕ} {sg : Vec Ideal S1024x1 .i32} (hs : Holds s t sg)

/-- No segment's word is the 512 of the padding. -/
theorem word_ne_after (g : Fin 512) : word g ≠ 512#32 := by
  intro h
  have := congrArg BitVec.toNat h
  have hg := g.isLt
  simp [word] at this
  omega

include hs in
/-- A block's row in segment `g` is a row of the array. -/
theorem row_real {r : Fin 1024} (hr : segs sg r = word g) :
    ∃ h : 1024 * t + r.val < 50000, s ⟨1024 * t + r.val, h⟩ = word g := by
  rw [hs r] at hr
  split at hr
  · exact ⟨_, hr⟩
  · exact absurd hr.symm (word_ne_after g)

include hs in
/-- In a block of sorted words each segment's rows lie together. -/
theorem together (hm : Sorted s) (g : Fin 512) : Doubling.Together (segs sg) (word g) := by
  intro a b c hab hbc ha hc
  obtain ⟨h1, e1⟩ := row_real hs ha
  obtain ⟨h3, e3⟩ := row_real hs hc
  have hab' : a.val ≤ b.val := hab
  have hbc' : b.val ≤ c.val := hbc
  have h2 : 1024 * t + b.val < 50000 := by omega
  rw [hs b, dif_pos h2]
  have l1 := hm ⟨_, h1⟩ ⟨_, h2⟩ (by show 1024 * t + a.val ≤ 1024 * t + b.val; omega)
  have l2 := hm ⟨_, h2⟩ ⟨_, h3⟩ (by show 1024 * t + b.val ≤ 1024 * t + c.val; omega)
  rw [e1] at l1
  rw [e3] at l2
  exact BitVec.eq_of_toInt_eq (le_antisymm l2 l1)

include hs in
/-- A sum over a block's rows of segment `g` is the sum over those rows of the array. -/
theorem sum_rows (f : Fin 1024 → EReal) (F : Fin 50000 → EReal)
    (hf : ∀ r : Fin 1024, ∀ h : 1024 * t + r.val < 50000, f r = F ⟨1024 * t + r.val, h⟩) :
    ∑ r ∈ rows sg g, f r = ∑ i ∈ piece s g t, F i := by
  refine Finset.sum_bij (fun r hr => ⟨1024 * t + r.val, (row_real hs (Doubling.mem_rows.mp hr)).1⟩) ?_ ?_ ?_ ?_
  · intro r hr
    obtain ⟨h, e⟩ := row_real hs (Doubling.mem_rows.mp hr)
    have := r.isLt
    simp only [piece, Finset.mem_filter, Finset.mem_univ, true_and]
    exact ⟨⟨by omega, by omega⟩, e⟩
  · intro a _ b _ hab
    have := congrArg Fin.val hab
    apply Fin.ext
    simp only at this
    omega
  · intro i hi
    simp only [piece, Finset.mem_filter, Finset.mem_univ, true_and] at hi
    obtain ⟨⟨h1, h2⟩, e⟩ := hi
    have hv : 1024 * t + (i.val - 1024 * t) = i.val := by omega
    have hi' := i.isLt
    refine ⟨⟨i.val - 1024 * t, by omega⟩, Doubling.mem_rows.mpr ?_, Fin.ext hv⟩
    rw [hs, dif_pos (show 1024 * t + (i.val - 1024 * t) < 50000 by omega), ← e]
    exact congrArg s (Fin.ext hv)
  · exact fun r hr => hf r _

include hs in
/-- So is a maximum. -/
theorem sup_rows (f : Fin 1024 → EReal) (F : Fin 50000 → EReal)
    (hf : ∀ r : Fin 1024, ∀ h : 1024 * t + r.val < 50000, f r = F ⟨1024 * t + r.val, h⟩) :
    (rows sg g).sup f = (piece s g t).sup F := by
  apply le_antisymm
  · refine Finset.sup_le fun r hr => ?_
    obtain ⟨h, e⟩ := row_real hs (Doubling.mem_rows.mp hr)
    have := r.isLt
    rw [hf r h]
    refine Finset.le_sup (f := F) ?_
    simp only [piece, Finset.mem_filter, Finset.mem_univ, true_and]
    exact ⟨⟨by omega, by omega⟩, e⟩
  · refine Finset.sup_le fun i hi => ?_
    simp only [piece, Finset.mem_filter, Finset.mem_univ, true_and] at hi
    obtain ⟨⟨h1, h2⟩, e⟩ := hi
    have hv : 1024 * t + (i.val - 1024 * t) = i.val := by omega
    have hi' := i.isLt
    have hl : 1024 * t + (⟨i.val - 1024 * t, by omega⟩ : Fin 1024).val < 50000 := by show 1024 * t + (i.val - 1024 * t) < 50000; omega
    have hF : F i = f ⟨i.val - 1024 * t, by omega⟩ := by
      rw [hf _ hl]
      exact congrArg F (Fin.ext hv.symm)
    rw [hF]
    refine Finset.le_sup (f := f) (Doubling.mem_rows.mpr ?_)
    rw [hs, dif_pos hl, ← e]
    exact congrArg s (Fin.ext hv)

variable {x : Vec Ideal S1024x256 .f32} {w1 : Vec Ideal S256x256 .f32} {b1 : Vec Ideal S1x256 .f32} {w2 : Vec Ideal S256x1 .f32}
  {b2 : Vec Ideal S1x1 .f32} {X : Fin 50000 → Fin 256 → EReal} {gt : Fin 50000 → EReal}
  (hx : ∀ r : Fin 1024, ∀ h : 1024 * t + r.val < 50000, ∀ d, x (ix2 r d) = X ⟨1024 * t + r.val, h⟩ d)
  (hg : ∀ r : Fin 1024, ∀ h : 1024 * t + r.val < 50000, gates x w1 b1 w2 b2 r = gt ⟨1024 * t + r.val, h⟩)

include hs in
/-- The count after block `t`. -/
theorem step_count {old : EReal} (h : old = ∑ _i ∈ upto s g (1024 * t), 1) :
    old + ∑ _r ∈ rows sg g, 1 = ∑ _i ∈ upto s g (1024 * (t + 1)), (1 : EReal) := by
  rw [h, upto_succ, Finset.sum_union (upto_disjoint s g t), sum_rows hs (fun _ => 1) (fun _ => 1) fun _ _ => rfl]

include hs hx in
/-- The sum of a feature after block `t`. -/
theorem step_sum {old : EReal} (d : Fin 256) (h : old = ∑ i ∈ upto s g (1024 * t), X i d) :
    old + ∑ r ∈ rows sg g, x (ix2 r d) = ∑ i ∈ upto s g (1024 * (t + 1)), X i d := by
  rw [h, upto_succ, Finset.sum_union (upto_disjoint s g t), sum_rows hs (fun r => x (ix2 r d)) (fun i => X i d) fun r h => hx r h d]

include hs hx in
/-- The maximum of a feature after block `t`. -/
theorem step_max {old : EReal} (d : Fin 256) (h : old = (upto s g (1024 * t)).sup fun i => X i d) :
    max old ((rows sg g).sup fun r => x (ix2 r d)) = (upto s g (1024 * (t + 1))).sup fun i => X i d := by
  rw [h, upto_succ, Finset.sup_union, sup_rows hs (fun r => x (ix2 r d)) (fun i => X i d) fun r h => hx r h d]

include hs hg in
/-- The maximum of the gates after block `t`, as the larger of the two parts' maxima. -/
theorem top_eq {old : EReal} (h : old = (upto s g (1024 * t)).sup gt) :
    top sg x w1 b1 w2 b2 old g = max ((upto s g (1024 * t)).sup gt) ((piece s g t).sup gt) := by
  unfold top
  rw [h, sup_rows hs _ gt hg]

include hs hg in
/-- The maximum of the gates after block `t`. -/
theorem step_top {old : EReal} (h : old = (upto s g (1024 * t)).sup gt) :
    top sg x w1 b1 w2 b2 old g = (upto s g (1024 * (t + 1))).sup gt := by
  rw [top_eq hs hg h, upto_succ, Finset.sup_union]

include hs hg in
/-- The sum of the weights after block `t`. -/
theorem step_denom {old oldm : EReal} (hm : oldm = (upto s g (1024 * t)).sup gt)
    (h : old = ∑ i ∈ upto s g (1024 * t), Ideal.exp (gt i - (upto s g (1024 * t)).sup gt)) :
    old * Scale.sc oldm (top sg x w1 b1 w2 b2 oldm g) + ∑ r ∈ rows sg g, Ideal.exp (gates x w1 b1 w2 b2 r - top sg x w1 b1 w2 b2 oldm g)
      = ∑ i ∈ upto s g (1024 * (t + 1)), Ideal.exp (gt i - (upto s g (1024 * (t + 1))).sup gt) := by
  have e := top_eq hs hg hm
  generalize top sg x w1 b1 w2 b2 oldm g = M at e ⊢
  rw [sum_rows hs (fun r => Ideal.exp (gates x w1 b1 w2 b2 r - M)) (fun i => Ideal.exp (gt i - M)) fun r h => by rw [hg r h],
    upto_succ, ← Scale.weight_step _ _ (upto_disjoint s g t) gt, e, h, hm]

include hs hx hg in
/-- The weighted sum of a feature after block `t`. -/
theorem step_weighted {old oldm : EReal} (d : Fin 256) (hm : oldm = (upto s g (1024 * t)).sup gt)
    (h : old = ∑ i ∈ upto s g (1024 * t), Ideal.exp (gt i - (upto s g (1024 * t)).sup gt) * X i d) :
    old * Scale.sc oldm (top sg x w1 b1 w2 b2 oldm g)
        + ∑ r ∈ rows sg g, Ideal.exp (gates x w1 b1 w2 b2 r - top sg x w1 b1 w2 b2 oldm g) * x (ix2 r d)
      = ∑ i ∈ upto s g (1024 * (t + 1)), Ideal.exp (gt i - (upto s g (1024 * (t + 1))).sup gt) * X i d := by
  have e := top_eq hs hg hm
  generalize top sg x w1 b1 w2 b2 oldm g = M at e ⊢
  rw [sum_rows hs (fun r => Ideal.exp (gates x w1 b1 w2 b2 r - M) * x (ix2 r d)) (fun i => Ideal.exp (gt i - M) * X i d)
      fun r h => by rw [hg r h, hx r h d],
    upto_succ, ← Scale.weighted_step _ _ (upto_disjoint s g t) gt, e, h, hm]

end Cert.Segments
-- ==== Proof.Points.lean ====
/-
  What each kind of grid point leaves in the output block and in the three carried columns, read at an index: the first
  point starts from the initial values, the middle points from what the point before left, and the last point also
  turns the three sums into the readout.
-/
module

public import proofs.«01_k».proof.Proof.Step
public import proofs.«01_k».proof.Proof.Gen.KernelIdeal.Frame

@[expose] public section

set_option maxRecDepth 16384

noncomputable section

namespace Cert.Points

open Idealize.ShloMosaic Idealize.ShloMosaic.Tactic Cert.KernelIdeal Cert.KernelIdeal.Gen Cert.Block Cert.Step

/-- A load of a whole rank-two buffer. -/
theorem ld_whole {Val : EltTy → Type} {e : EltTy} {m n : ℕ} (X : (⟨2, ![m, n]⟩ : Shape).Idx → Val e)
    (inb : ∀ a, (![0, 0] : Fin 2 → ℕ) a + (![m, n] : Fin 2 → ℕ) a ≤ (⟨2, ![m, n]⟩ : Shape).size a) :
    View.ld X (Rect.unit (s := ⟨2, ![m, n]⟩) ![0, 0] ![m, n] inb) = X :=
  View.ld_unit_zero (S := ⟨2, ![m, n]⟩) (funext fun a => by fin_cases a <;> rfl) inb X

/-- A store of a whole rank-two buffer, last, leaves its payload. -/
theorem canon_whole {Val : EltTy → Type} [∀ e, Nonempty (Val e)] {e : EltTy} {m n : ℕ}
    (inb : ∀ a, (![0, 0] : Fin 2 → ℕ) a + (![m, n] : Fin 2 → ℕ) a ≤ (⟨2, ![m, n]⟩ : Shape).size a)
    (w : (⟨2, ![m, n]⟩ : Shape).Idx → Val e) (L : List (View.Piece Val ⟨2, ![m, n]⟩ e)) :
    View.canon ((⟨Rect.unit (s := ⟨2, ![m, n]⟩) ![0, 0] ![m, n] inb, w⟩ : View.Piece Val ⟨2, ![m, n]⟩ e) :: L) = w :=
  View.canon_cons_unit_zero (S := ⟨2, ![m, n]⟩) (funext fun a => by fin_cases a <;> rfl) inb w L

/-- The bounds of the 256 output columns from `o` on. -/
abbrev Inb (o : ℕ) : Prop := ∀ a, (![0, o] : Fin 2 → ℕ) a + (![512, 256] : Fin 2 → ℕ) a ≤ S512x768.size a

/-- A load of 256 output columns disjoint from the last store reads the earlier stores. -/
theorem readCov_skip {sig : RefSig} {κ : Kind} {sp : Space} (v : View sig κ sp S512x768 .f32) (o o' : ℕ)
    (h : o + 256 ≤ o' ∨ o' + 256 ≤ o) (inb : Inb o) (inb' : Inb o') (w : FVec Ideal S512x256 .f32)
    (L : List (View.Piece (Elt Ideal) S512x768 .f32)) :
    v.readCov ((⟨Rect.unit (s := S512x768) ![0, o] ![512, 256] inb, w⟩ : View.Piece (Elt Ideal) S512x768 .f32) :: L)
        (Rect.unit (s := S512x768) ![0, o'] ![512, 256] inb').toLoadRect
      = v.readCov L (Rect.unit (s := S512x768) ![0, o'] ![512, 256] inb').toLoadRect :=
  View.readCov_cons_of_disjoint v _ L _ (Rect.unit_disjoint (inb := inb) (inb' := inb') 1 h)

/-- Inside the last store's 256 columns the contents are its payload. -/
theorem canon_hit (o : ℕ) (inb : Inb o) (w : FVec Ideal S512x256 .f32) (L : List (View.Piece (Elt Ideal) S512x768 .f32))
    (g : Fin 512) (d : Fin 256) (k : Fin 768) (hk : k.val = o + d.val) :
    View.canon ((⟨Rect.unit (s := S512x768) ![0, o] ![512, 256] inb, w⟩ : View.Piece (Elt Ideal) S512x768 .f32) :: L) (ix2 g k)
      = w (ix2 g d) := by
  have h : (ix2 g k : S512x768.Idx) = (Rect.unit (s := S512x768) ![0, o] ![512, 256] inb).emb (ix2 g d) := by
    funext a
    fin_cases a
    · exact Fin.ext (show g.val = 0 + 1 * g.val by omega)
    · exact Fin.ext (show k.val = o + 1 * d.val by omega)
  rw [h]
  exact View.canon_cons_emb (Val := Elt Ideal) (e := .f32) (Rect.unit (s := S512x768) ![0, o] ![512, 256] inb) w L (ix2 g d)

/-- Outside them the contents are those of the earlier stores. -/
theorem canon_miss (o : ℕ) (inb : Inb o) (w : FVec Ideal S512x256 .f32) (L : List (View.Piece (Elt Ideal) S512x768 .f32))
    (g : Fin 512) (k : Fin 768) (hk : k.val < o ∨ o + 256 ≤ k.val) :
    View.canon ((⟨Rect.unit (s := S512x768) ![0, o] ![512, 256] inb, w⟩ : View.Piece (Elt Ideal) S512x768 .f32) :: L) (ix2 g k)
      = View.canon L (ix2 g k) := by
  refine View.canon_cons_of_not_mem _ L fun h => ?_
  have := ((Rect.mem_set_unit (inb := inb)).mp h) 1
  change o ≤ k.val ∧ k.val < o + 256 at this
  omega

/-- A load of 256 columns reads them. -/
theorem ld_cols (X : Vec Ideal S512x768 .f32) (o : ℕ) (inb : Inb o) (g : Fin 512) (d : Fin 256) (k : Fin 768) (hk : k.val = o + d.val) :
    View.ld X (Rect.unit (s := S512x768) ![0, o] ![512, 256] inb) (ix2 g d) = X (ix2 g k) := by
  refine congrArg X ?_
  funext a
  fin_cases a
  · exact Fin.ext (show 0 + 1 * g.val = g.val by omega)
  · exact Fin.ext (show o + 1 * d.val = k.val by omega)

/-- The first point's count of rows. -/
theorem count_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (ht : Doubling.Together (segs sg) (word g)) :
    sout0_A_0 c i arg1 harg1 arg2 harg2 arg3 harg3 arg4 harg4 arg5 harg5 arg6 harg6 arg7 harg7 arg8 harg8 arg9 harg9 arg10 harg10 hc0 hc1 sg x w1 b1 w2 b2 (ix2 g 0)
      = 0 + ∑ _r ∈ rows sg g, 1 := by
  unfold sout0_A_0; rw [View.read_writes_eq_canon _ _ _ (scover0_A_0 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  refine (store_count sg x w1 b1 w2 b2 (k0_pay11 (F := Ideal)) g ht (k0_pay9 (F := Ideal))).trans ?_
  rw [init_count]

/-- The first point's sum of weights. -/
theorem denom_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (ht : Doubling.Together (segs sg) (word g)) :
    sout0_A_1 c i arg1 harg1 arg2 harg2 arg3 harg3 arg4 harg4 arg5 harg5 arg6 harg6 arg7 harg7 arg8 harg8 arg9 harg9 arg10 harg10 hc0 hc1 sg x w1 b1 w2 b2 (ix2 g 0)
      = 0 * Scale.sc ⊥ (top sg x w1 b1 w2 b2 ⊥ g) + ∑ r ∈ rows sg g, Ideal.exp (gates x w1 b1 w2 b2 r - top sg x w1 b1 w2 b2 ⊥ g) := by
  unfold sout0_A_1; rw [View.read_writes_eq_canon _ _ _ (scover0_A_1 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  refine (store_denom sg x w1 b1 w2 b2 (k0_pay11 (F := Ideal)) g ht (k0_pay10 (F := Ideal))).trans ?_
  rw [init_denom, init_top]

/-- The first point's running maximum of the gates. -/
theorem top_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (ht : Doubling.Together (segs sg) (word g)) :
    sout0_A_2 c i arg1 harg1 arg2 harg2 arg3 harg3 arg4 harg4 arg5 harg5 arg6 harg6 arg7 harg7 arg8 harg8 arg9 harg9 arg10 harg10 hc0 hc1 sg x w1 b1 w2 b2 (ix2 g 0)
      = top sg x w1 b1 w2 b2 ⊥ g := by
  unfold sout0_A_2; rw [View.read_writes_eq_canon _ _ _ (scover0_A_2 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  refine (store_top sg x w1 b1 w2 b2 (k0_pay11 (F := Ideal)) g ht).trans ?_
  rw [init_top]

/-- The first point's feature sum. -/
theorem sum_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (d : Fin 256) (ht : Doubling.Together (segs sg) (word g)) :
    out0_A_6 c i arg1 harg1 arg2 harg2 arg3 harg3 arg4 harg4 arg5 harg5 arg6 harg6 arg7 harg7 arg8 harg8 arg9 harg9 arg10 harg10 hc0 hc1 sg x w1 b1 w2 b2 (ix2 g ⟨d.val, by omega⟩)
      = 0 + ∑ r ∈ rows sg g, x (ix2 r d) := by
  unfold out0_A_6; rw [View.read_writes_eq_canon _ _ _ (cover0_A_6 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_miss 512 _ _ _ g _ (by show d.val < 512 ∨ 512 + 256 ≤ d.val; omega)]
  rw [canon_miss 256 _ _ _ g _ (by show d.val < 256 ∨ 256 + 256 ≤ d.val; omega)]
  rw [canon_hit 0 _ _ _ g d _ (Nat.zero_add _).symm]
  refine (store_sum sg x w1 b1 w2 b2 (k0_pay11 (F := Ideal)) g ht _ d).trans ?_
  rw [init_sum]

/-- The first point's feature maximum. -/
theorem max_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (d : Fin 256) (ht : Doubling.Together (segs sg) (word g)) :
    out0_A_6 c i arg1 harg1 arg2 harg2 arg3 harg3 arg4 harg4 arg5 harg5 arg6 harg6 arg7 harg7 arg8 harg8 arg9 harg9 arg10 harg10 hc0 hc1 sg x w1 b1 w2 b2 (ix2 g ⟨256 + d.val, by omega⟩)
      = max (⊥) ((rows sg g).sup fun r => x (ix2 r d)) := by
  unfold out0_A_6; rw [View.read_writes_eq_canon _ _ _ (cover0_A_6 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_miss 512 _ _ _ g _ (by show 256 + d.val < 512 ∨ 512 + 256 ≤ 256 + d.val; omega)]
  rw [canon_hit 256 _ _ _ g d _ rfl]
  refine (store_max sg x w1 b1 w2 b2 g ht _ d).trans ?_
  rw [init_max]

/-- The first point's weighted feature sum. -/
theorem weighted_A (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32)
    (g : Fin 512) (d : Fin 256) (ht : Doubling.Together (segs sg) (word g)) :
    out0_A_6 c i arg1 harg1 arg2 harg2 arg3 harg3 arg4 harg4 arg5 harg5 arg6 harg6 arg7 harg7 arg8 harg8 arg9 harg9 arg10 harg10 hc0 hc1 sg x w1 b1 w2 b2 (ix2 g ⟨512 + d.val, by omega⟩)
      = 0 * Scale.sc ⊥ (top sg x w1 b1 w2 b2 ⊥ g) + ∑ r ∈ rows sg g, Ideal.exp (gates x w1 b1 w2 b2 r - top sg x w1 b1 w2 b2 ⊥ g) * x (ix2 r d) := by
  unfold out0_A_6; rw [View.read_writes_eq_canon _ _ _ (cover0_A_6 _ _ _ _ _ _ _ _ _ _ _ _ _ _ _ _ _ _ _ _ _ _ _ _ _ _ _ _ _ _)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_hit 512 _ _ _ g d _ rfl]
  refine (store_weighted sg x w1 b1 w2 b2 (k0_pay11 (F := Ideal)) g ht _ d).trans ?_
  rw [init_weighted, init_top]

/-- A middle point's count of rows. -/
theorem count_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_B_0 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = xs0 (ix2 g 0) + ∑ _r ∈ rows sg g, 1 := by
  unfold sout0_B_0; rw [View.read_writes_eq_canon _ _ _ (scover0_B_0 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_count sg x w1 b1 w2 b2 xs2 g ht xs0)

/-- A middle point's sum of weights. -/
theorem denom_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_B_1 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = xs1 (ix2 g 0) * Scale.sc (xs2 (ix2 g 0)) (top sg x w1 b1 w2 b2 (xs2 (ix2 g 0)) g) + ∑ r ∈ rows sg g, Ideal.exp (gates x w1 b1 w2 b2 r - top sg x w1 b1 w2 b2 (xs2 (ix2 g 0)) g) := by
  unfold sout0_B_1; rw [View.read_writes_eq_canon _ _ _ (scover0_B_1 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_denom sg x w1 b1 w2 b2 xs2 g ht xs1)

/-- A middle point's running maximum of the gates. -/
theorem top_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_B_2 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = top sg x w1 b1 w2 b2 (xs2 (ix2 g 0)) g := by
  unfold sout0_B_2; rw [View.read_writes_eq_canon _ _ _ (scover0_B_2 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_top sg x w1 b1 w2 b2 xs2 g ht)

/-- A middle point's feature sum. -/
theorem sum_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_B_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨d.val, by omega⟩)
      = xo (ix2 g ⟨d.val, by omega⟩) + ∑ r ∈ rows sg g, x (ix2 r d) := by
  unfold out0_B_6; rw [View.read_writes_eq_canon _ _ _ (cover0_B_6 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  rw [canon_miss 512 _ _ _ g _ (by show d.val < 512 ∨ 512 + 256 ≤ d.val; omega)]
  rw [canon_miss 256 _ _ _ g _ (by show d.val < 256 ∨ 256 + 256 ≤ d.val; omega)]
  rw [canon_hit 0 _ _ _ g d _ (Nat.zero_add _).symm]
  refine (store_sum sg x w1 b1 w2 b2 xs2 g ht _ d).trans ?_
  rw [ld_cols _ 0 _ g d ⟨d.val, by omega⟩ (Nat.zero_add _).symm]

/-- A middle point's feature maximum. -/
theorem max_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_B_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨256 + d.val, by omega⟩)
      = max (xo (ix2 g ⟨256 + d.val, by omega⟩)) ((rows sg g).sup fun r => x (ix2 r d)) := by
  unfold out0_B_6; rw [View.read_writes_eq_canon _ _ _ (cover0_B_6 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  rw [canon_miss 512 _ _ _ g _ (by show 256 + d.val < 512 ∨ 512 + 256 ≤ 256 + d.val; omega)]
  rw [canon_hit 256 _ _ _ g d _ rfl]
  refine (store_max sg x w1 b1 w2 b2 g ht _ d).trans ?_
  rw [ld_cols _ 256 _ g d ⟨256 + d.val, by omega⟩ rfl]

/-- A middle point's weighted feature sum. -/
theorem weighted_B (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_B_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨512 + d.val, by omega⟩)
      = xo (ix2 g ⟨512 + d.val, by omega⟩) * Scale.sc (xs2 (ix2 g 0)) (top sg x w1 b1 w2 b2 (xs2 (ix2 g 0)) g) + ∑ r ∈ rows sg g, Ideal.exp (gates x w1 b1 w2 b2 r - top sg x w1 b1 w2 b2 (xs2 (ix2 g 0)) g) * x (ix2 r d) := by
  unfold out0_B_6; rw [View.read_writes_eq_canon _ _ _ (cover0_B_6 _ _ _ _ _ _ _ _ _ _ _ _ _ _ _ _ _ _ _ _ _ _ _ _ _ _ _ _ _ _ _ _ _ _)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  rw [canon_hit 512 _ _ _ g d _ rfl]
  refine (store_weighted sg x w1 b1 w2 b2 xs2 g ht _ d).trans ?_
  rw [ld_cols _ 512 _ g d ⟨512 + d.val, by omega⟩ rfl]

/-- The last point's count of rows. -/
theorem count_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_C_0 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = xs0 (ix2 g 0) + ∑ _r ∈ rows sg g, 1 := by
  unfold sout0_C_0; rw [View.read_writes_eq_canon _ _ _ (scover0_C_0 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_count sg x w1 b1 w2 b2 xs2 g ht xs0)

/-- The last point's sum of weights. -/
theorem denom_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_C_1 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = xs1 (ix2 g 0) * Scale.sc (xs2 (ix2 g 0)) (top sg x w1 b1 w2 b2 (xs2 (ix2 g 0)) g) + ∑ r ∈ rows sg g, Ideal.exp (gates x w1 b1 w2 b2 r - top sg x w1 b1 w2 b2 (xs2 (ix2 g 0)) g) := by
  unfold sout0_C_1; rw [View.read_writes_eq_canon _ _ _ (scover0_C_1 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_denom sg x w1 b1 w2 b2 xs2 g ht xs1)

/-- The last point's running maximum of the gates. -/
theorem top_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (ht : Doubling.Together (segs sg) (word g)) :
    sout0_C_2 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g 0)
      = top sg x w1 b1 w2 b2 (xs2 (ix2 g 0)) g := by
  unfold sout0_C_2; rw [View.read_writes_eq_canon _ _ _ (scover0_C_2 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  exact (store_top sg x w1 b1 w2 b2 xs2 g ht)

/-- The last point's feature sum, turned into the readout. -/
theorem sum_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_C_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨d.val, by omega⟩)
      = Ideal.div (xo (ix2 g ⟨d.val, by omega⟩) + ∑ r ∈ rows sg g, x (ix2 r d)) (max (xs0 (ix2 g 0) + ∑ _r ∈ rows sg g, 1) 1) := by
  unfold out0_C_6; rw [View.read_writes_eq_canon _ _ _ (cover0_C_6 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_miss 512 _ _ _ g _ (by show d.val < 512 ∨ 512 + 256 ≤ d.val; omega)]
  rw [canon_miss 256 _ _ _ g _ (by show d.val < 256 ∨ 256 + 256 ≤ d.val; omega)]
  rw [canon_hit 0 _ _ _ g d _ (Nat.zero_add _).symm]
  refine (mean_apply g _ _ d).trans ?_
  rw [store_count sg x w1 b1 w2 b2 xs2 g ht xs0, store_sum sg x w1 b1 w2 b2 xs2 g ht _ d, ld_cols _ 0 _ g d ⟨d.val, by omega⟩ (Nat.zero_add _).symm]

/-- The last point's feature maximum, turned into the readout. -/
theorem max_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_C_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨256 + d.val, by omega⟩)
      = if 0 < xs0 (ix2 g 0) + ∑ _r ∈ rows sg g, 1 then max (xo (ix2 g ⟨256 + d.val, by omega⟩)) ((rows sg g).sup fun r => x (ix2 r d)) else 0 := by
  unfold out0_C_6; rw [View.read_writes_eq_canon _ _ _ (cover0_C_6 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_miss 512 _ _ _ g _ (by show 256 + d.val < 512 ∨ 512 + 256 ≤ 256 + d.val; omega)]
  rw [canon_hit 256 _ _ _ g d _ rfl]
  refine (max_apply g _ _ d).trans ?_
  rw [store_count sg x w1 b1 w2 b2 xs2 g ht xs0, store_max sg x w1 b1 w2 b2 g ht _ d, ld_cols _ 256 _ g d ⟨256 + d.val, by omega⟩ rfl]

/-- The last point's weighted feature sum, turned into the readout. -/
theorem weighted_C (c : Dev nD) (i : grid0.Coords) (arg1 : Memref sig .tc .vmem S1024x1 .i32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (sg : Vec Ideal S1024x1 .i32) (x : Vec Ideal S1024x256 .f32) (w1 : Vec Ideal S256x256 .f32) (b1 : Vec Ideal S1x256 .f32) (w2 : Vec Ideal S256x1 .f32) (b2 : Vec Ideal S1x1 .f32) (xo : Vec Ideal S512x768 .f32) (xs0 xs1 xs2 : Vec Ideal S512x1 .f32)
    (g : Fin 512) (d : Fin 256) (ht : Doubling.Together (segs sg) (word g)) :
    out0_C_6 c i arg1 harg1 arg2 harg2 arg3 harg3 arg4 harg4 arg5 harg5 arg6 harg6 arg7 harg7 arg8 harg8 arg9 harg9 arg10 harg10 hc0 hc1 sg x w1 b1 w2 b2 xo xs0 xs1 xs2 (ix2 g ⟨512 + d.val, by omega⟩)
      = Ideal.div (xo (ix2 g ⟨512 + d.val, by omega⟩) * Scale.sc (xs2 (ix2 g 0)) (top sg x w1 b1 w2 b2 (xs2 (ix2 g 0)) g) + ∑ r ∈ rows sg g, Ideal.exp (gates x w1 b1 w2 b2 r - top sg x w1 b1 w2 b2 (xs2 (ix2 g 0)) g) * x (ix2 r d))
        (xs1 (ix2 g 0) * Scale.sc (xs2 (ix2 g 0)) (top sg x w1 b1 w2 b2 (xs2 (ix2 g 0)) g) + ∑ r ∈ rows sg g, Ideal.exp (gates x w1 b1 w2 b2 r - top sg x w1 b1 w2 b2 (xs2 (ix2 g 0)) g) + Ideal.ofBits .f32 0x24E69595#32) := by
  unfold out0_C_6; rw [View.read_writes_eq_canon _ _ _ (cover0_C_6 _ _ _ _ _ _ _ _ _ _ _ _ _ _ _ _ _ _ _ _ _ _ _ _ _ _ _ _ _ _ _ _ _ _)]
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, ld_whole, View.readCov_cons_toLoadRect, canon_whole]
  simp only [readCov_skip _ 0 256 (by decide), readCov_skip _ 0 512 (by decide), readCov_skip _ 256 0 (by decide), readCov_skip _ 256 512 (by decide), readCov_skip _ 512 0 (by decide), readCov_skip _ 512 256 (by decide), View.readCov_cons_toLoadRect]
  rw [canon_hit 512 _ _ _ g d _ rfl]
  refine (attention_apply g _ _ d).trans ?_
  rw [store_denom sg x w1 b1 w2 b2 xs2 g ht xs1, store_weighted sg x w1 b1 w2 b2 xs2 g ht _ d, ld_cols _ 512 _ g d ⟨512 + d.val, by omega⟩ rfl]

end Cert.Points
-- ==== Proof.Sweep.lean ====
/-
  What the kernel's output array ends holding: the sweep over the 49 blocks accumulates each segment's count, sums,
  maxima and exponentially weighted sums over all its rows, and the last point turns them into the readout.
-/
module

public import proofs.«01_k».proof.Proof.Input
public import proofs.«01_k».proof.Proof.Segments
public import proofs.«01_k».proof.Proof.Points
public import proofs.«01_k».proof.Proof.Gen.KernelIdeal.Value

@[expose] public section

set_option maxRecDepth 16384

noncomputable section

namespace Cert.Sweep

open Idealize.ShloMosaic Idealize.ShloMosaic.TcCoe Cert.KernelIdeal Cert.KernelIdeal.Gen Cert.KernelIdeal.Value Cert.Block Cert.Step Cert.Segments
open Idealize.SL.Sem

variable (m : (ℓ : Loc nD τ sig) → Buf (Elt Ideal) ℓ) (c : Dev nD)

/-- The segment words. -/
def words (i : Fin 50000) : BitVec 32 := (m ((c : Thread nD τ).loc main_arg1) : Vec Ideal S50000 .i32) (ix1 i)

/-- The features. -/
def feats (i : Fin 50000) (d : Fin 256) : EReal := (m ((c : Thread nD τ).loc main_arg0) : Vec Ideal S50000x256 .f32) (ix2 i d)

/-- The gate of a row. -/
def gt (i : Fin 50000) : EReal :=
  Readout.gate (feats m c i) (fun l k => (m ((c : Thread nD τ).loc main_arg2) : Vec Ideal S256x256 .f32) (ix2 l k))
    (fun k => (m ((c : Thread nD τ).loc main_arg3) : Vec Ideal S256 .f32) (ix1 k))
    (fun k => (m ((c : Thread nD τ).loc main_arg4) : Vec Ideal S256x1 .f32) (ix2 k 0))
    ((m ((c : Thread nD τ).loc main_arg5) : Vec Ideal S1 .f32) (ix1 0))

/-- The block of segment words point `t` reads. -/
def bS (t : Fin cfg0.N) : Vec Ideal S1024x1 .i32 := iblk m c 0 t

/-- The block of features point `t` reads. -/
def bX (t : Fin cfg0.N) : Vec Ideal S1024x256 .f32 := iblk m c 1 t

/-- The first weights as point `t` reads them. -/
def bW (t : Fin cfg0.N) : Vec Ideal S256x256 .f32 := iblk m c 2 t

/-- The first bias as point `t` reads it. -/
def bB (t : Fin cfg0.N) : Vec Ideal S1x256 .f32 := iblk m c 3 t

/-- The second weights as point `t` reads them. -/
def bV (t : Fin cfg0.N) : Vec Ideal S256x1 .f32 := iblk m c 4 t

/-- The second bias as point `t` reads it. -/
def bC (t : Fin cfg0.N) : Vec Ideal S1x1 .f32 := iblk m c 5 t

/-- Block `t` holds the words from row `1024 * t` on. -/
theorem holds (t : Fin cfg0.N) : Holds (words m c) t.val (bS m c t) := fun r => Input.seg_block m c t r

/-- A row of block `t` holds the features of its place in the array. -/
theorem feats_block (t : Fin cfg0.N) (r : Fin 1024) (h : 1024 * t.val + r.val < 50000) (d : Fin 256) :
    bX m c t (ix2 r d) = feats m c ⟨1024 * t.val + r.val, h⟩ d := by
  exact (Input.feature_block m c t r d).trans (dif_pos h)

/-- The gate of a row of block `t` is that of its place in the array. -/
theorem gates_block (t : Fin cfg0.N) (r : Fin 1024) (h : 1024 * t.val + r.val < 50000) :
    gates (bX m c t) (bW m c t) (bB m c t) (bV m c t) (bC m c t) r = gt m c ⟨1024 * t.val + r.val, h⟩ := by
  refine (gate_apply _ _ _ _ _ r).trans ?_
  unfold gt
  congr 1
  · exact funext fun d => feats_block m c t r h d
  · exact funext fun l => funext fun k => Input.w1_block m c t l k
  · exact funext fun k => Input.b1_block m c t k
  · exact funext fun k => Input.w2_block m c t k
  · exact Input.b2_block m c t

/-- The rows of segment `g` among the first `n`. -/
abbrev part (g : Fin 512) (n : ℕ) : Finset (Fin 50000) := upto (words m c) g n

/-- The largest gate of segment `g` among the first `n` rows. -/
abbrev best (g : Fin 512) (n : ℕ) : EReal := (part m c g n).sup (gt m c)

/-- The state that has accumulated the first `n` rows. -/
structure After (n : ℕ) (st : Vec Ideal S512x768 .f32 × Vec Ideal S512x1 .f32 × Vec Ideal S512x1 .f32 × Vec Ideal S512x1 .f32) : Prop where
  count : ∀ g, st.2.1 (ix2 g 0) = ∑ _i ∈ part m c g n, (1 : EReal)
  denom : ∀ g, st.2.2.1 (ix2 g 0) = ∑ i ∈ part m c g n, Ideal.exp (gt m c i - best m c g n)
  top : ∀ g, st.2.2.2 (ix2 g 0) = best m c g n
  sum : ∀ g, ∀ d : Fin 256, st.1 (ix2 g ⟨d.val, by omega⟩) = ∑ i ∈ part m c g n, feats m c i d
  max : ∀ g, ∀ d : Fin 256, st.1 (ix2 g ⟨256 + d.val, by omega⟩) = (part m c g n).sup fun i => feats m c i d
  weighted : ∀ g, ∀ d : Fin 256, st.1 (ix2 g ⟨512 + d.val, by omega⟩)
    = ∑ i ∈ part m c g n, Ideal.exp (gt m c i - best m c g n) * feats m c i d

/-- A sum over no row is 0. -/
theorem sum_none (F : Fin 50000 → EReal) (g : Fin 512) : (0 : EReal) = ∑ i ∈ part m c g (1024 * 0), F i := by
  rw [part, upto_zero, Finset.sum_empty]

/-- A maximum over no row is `⊥`. -/
theorem sup_none (F : Fin 50000 → EReal) (g : Fin 512) : (⊥ : EReal) = (part m c g (1024 * 0)).sup F := by
  rw [part, upto_zero, Finset.sup_empty]

/-- What the first point leaves as the output, as the payload that it stores. -/
theorem first_out_eq (t : Fin cfg0.N) (acc : Vec Ideal S512x768 .f32 × Vec Ideal S512x1 .f32 × Vec Ideal S512x1 .f32 × Vec Ideal S512x1 .f32) (h0 : t.val % 49 = 0) (h1 : ¬t.val % 49 = 48) :
    (stAt0 m c t.val t.isLt acc).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [stAt0_A m c t acc h0 h1]

/-- What the first point leaves as the counts, as the payload that it stores. -/
theorem first_count_eq (t : Fin cfg0.N) (acc : Vec Ideal S512x768 .f32 × Vec Ideal S512x1 .f32 × Vec Ideal S512x1 .f32 × Vec Ideal S512x1 .f32) (h0 : t.val % 49 = 0) (h1 : ¬t.val % 49 = 48) :
    (stAt0 m c t.val t.isLt acc).2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [stAt0_A m c t acc h0 h1]

/-- What the first point leaves as the sums of exponentials, as the payload that it stores. -/
theorem first_denom_eq (t : Fin cfg0.N) (acc : Vec Ideal S512x768 .f32 × Vec Ideal S512x1 .f32 × Vec Ideal S512x1 .f32 × Vec Ideal S512x1 .f32) (h0 : t.val % 49 = 0) (h1 : ¬t.val % 49 = 48) :
    (stAt0 m c t.val t.isLt acc).2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [stAt0_A m c t acc h0 h1]

/-- What the first point leaves as the largest gates, as the payload that it stores. -/
theorem first_top_eq (t : Fin cfg0.N) (acc : Vec Ideal S512x768 .f32 × Vec Ideal S512x1 .f32 × Vec Ideal S512x1 .f32 × Vec Ideal S512x1 .f32) (h0 : t.val % 49 = 0) (h1 : ¬t.val % 49 = 48) :
    (stAt0 m c t.val t.isLt acc).2.2.2 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [stAt0_A m c t acc h0 h1]

/-- The first point's count. -/
theorem first_count (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (ht : Doubling.Together (segs (bS m c t)) (word g)) :
    (stAt0 m c t.val t.isLt acc).2.1 (ix2 g 0)
      = 0 + ∑ _r ∈ rows (bS m c t) g, (1 : EReal) := by
  unfold bS at ht ⊢
  exact (congrFun (first_count_eq m c t acc h0 h1) _).trans
    (Points.count_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g ht)

/-- The first point's sum of weights. -/
theorem first_denom (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (ht : Doubling.Together (segs (bS m c t)) (word g)) :
    (stAt0 m c t.val t.isLt acc).2.2.1 (ix2 g 0)
      = 0 * Scale.sc (⊥) (top (bS m c t) (bX m c t) (bW m c t) (bB m c t) (bV m c t) (bC m c t) (⊥) g)
        + ∑ r ∈ rows (bS m c t) g, Ideal.exp (gates (bX m c t) (bW m c t) (bB m c t) (bV m c t) (bC m c t) r - top (bS m c t) (bX m c t) (bW m c t) (bB m c t) (bV m c t) (bC m c t) (⊥) g) := by
  unfold bS bX bW bB bV bC at *
  exact (congrFun (first_denom_eq m c t acc h0 h1) _).trans
    (Points.denom_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g ht)

/-- The first point's largest gate. -/
theorem first_top (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (ht : Doubling.Together (segs (bS m c t)) (word g)) :
    (stAt0 m c t.val t.isLt acc).2.2.2 (ix2 g 0)
      = top (bS m c t) (bX m c t) (bW m c t) (bB m c t) (bV m c t) (bC m c t) (⊥) g := by
  unfold bS bX bW bB bV bC at *
  exact (congrFun (first_top_eq m c t acc h0 h1) _).trans
    (Points.top_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g ht)

/-- The first point's sums. -/
theorem first_sum (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (d : Fin 256) (ht : Doubling.Together (segs (bS m c t)) (word g)) :
    (stAt0 m c t.val t.isLt acc).1 (ix2 g ⟨d.val, by omega⟩)
      = 0 + ∑ r ∈ rows (bS m c t) g, bX m c t (ix2 r d) := by
  unfold bS bX at *
  exact (congrFun (first_out_eq m c t acc h0 h1) _).trans
    (Points.sum_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g d ht)

/-- The first point's maxima. -/
theorem first_max (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (d : Fin 256) (ht : Doubling.Together (segs (bS m c t)) (word g)) :
    (stAt0 m c t.val t.isLt acc).1 (ix2 g ⟨256 + d.val, by omega⟩)
      = max (⊥) ((rows (bS m c t) g).sup fun r => bX m c t (ix2 r d)) := by
  unfold bS bX at *
  exact (congrFun (first_out_eq m c t acc h0 h1) _).trans
    (Points.max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g d ht)

/-- The first point's weighted sums. -/
theorem first_weighted (t : Fin cfg0.N) (acc : Vec Ideal S512x768 .f32 × Vec Ideal S512x1 .f32 × Vec Ideal S512x1 .f32 × Vec Ideal S512x1 .f32) (h0 : t.val % 49 = 0) (h1 : ¬t.val % 49 = 48)
    (g : Fin 512) (d : Fin 256) (ht : Doubling.Together (segs (bS m c t)) (word g)) :
    (stAt0 m c t.val t.isLt acc).1 (ix2 g ⟨512 + d.val, by omega⟩)
      = 0 * Scale.sc (⊥) (top (bS m c t) (bX m c t) (bW m c t) (bB m c t) (bV m c t) (bC m c t) (⊥) g)
        + ∑ r ∈ rows (bS m c t) g, Ideal.exp (gates (bX m c t) (bW m c t) (bB m c t) (bV m c t) (bC m c t) r - top (bS m c t) (bX m c t) (bW m c t) (bB m c t) (bV m c t) (bC m c t) (⊥) g) * bX m c t (ix2 r d) := by
  unfold bS bX bW bB bV bC at *
  exact (congrFun (first_out_eq m c t acc h0 h1) _).trans
    (Points.weighted_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) g d ht)

/-- What a middle point leaves as the output, as the payload that it stores. -/
theorem middle_out_eq (t : Fin cfg0.N) (acc : Vec Ideal S512x768 .f32 × Vec Ideal S512x1 .f32 × Vec Ideal S512x1 .f32 × Vec Ideal S512x1 .f32) (h0 : ¬t.val % 49 = 0) (h1 : ¬t.val % 49 = 48) :
    (stAt0 m c t.val t.isLt acc).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 := by
  rw [stAt0_B m c t acc h0 h1]

/-- What a middle point leaves as the counts, as the payload that it stores. -/
theorem middle_count_eq (t : Fin cfg0.N) (acc : Vec Ideal S512x768 .f32 × Vec Ideal S512x1 .f32 × Vec Ideal S512x1 .f32 × Vec Ideal S512x1 .f32) (h0 : ¬t.val % 49 = 0) (h1 : ¬t.val % 49 = 48) :
    (stAt0 m c t.val t.isLt acc).2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 := by
  rw [stAt0_B m c t acc h0 h1]

/-- What a middle point leaves as the sums of exponentials, as the payload that it stores. -/
theorem middle_denom_eq (t : Fin cfg0.N) (acc : Vec Ideal S512x768 .f32 × Vec Ideal S512x1 .f32 × Vec Ideal S512x1 .f32 × Vec Ideal S512x1 .f32) (h0 : ¬t.val % 49 = 0) (h1 : ¬t.val % 49 = 48) :
    (stAt0 m c t.val t.isLt acc).2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 := by
  rw [stAt0_B m c t acc h0 h1]

/-- What a middle point leaves as the largest gates, as the payload that it stores. -/
theorem middle_top_eq (t : Fin cfg0.N) (acc : Vec Ideal S512x768 .f32 × Vec Ideal S512x1 .f32 × Vec Ideal S512x1 .f32 × Vec Ideal S512x1 .f32) (h0 : ¬t.val % 49 = 0) (h1 : ¬t.val % 49 = 48) :
    (stAt0 m c t.val t.isLt acc).2.2.2 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 := by
  rw [stAt0_B m c t acc h0 h1]

/-- The middle point's count. -/
theorem middle_count (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (ht : Doubling.Together (segs (bS m c t)) (word g)) :
    (stAt0 m c t.val t.isLt acc).2.1 (ix2 g 0)
      = acc.2.1 (ix2 g 0) + ∑ _r ∈ rows (bS m c t) g, (1 : EReal) := by
  unfold bS at ht ⊢
  exact (congrFun (middle_count_eq m c t acc h0 h1) _).trans
    (Points.count_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g ht)

/-- The middle point's sum of weights. -/
theorem middle_denom (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (ht : Doubling.Together (segs (bS m c t)) (word g)) :
    (stAt0 m c t.val t.isLt acc).2.2.1 (ix2 g 0)
      = acc.2.2.1 (ix2 g 0) * Scale.sc (acc.2.2.2 (ix2 g 0)) (top (bS m c t) (bX m c t) (bW m c t) (bB m c t) (bV m c t) (bC m c t) (acc.2.2.2 (ix2 g 0)) g)
        + ∑ r ∈ rows (bS m c t) g, Ideal.exp (gates (bX m c t) (bW m c t) (bB m c t) (bV m c t) (bC m c t) r - top (bS m c t) (bX m c t) (bW m c t) (bB m c t) (bV m c t) (bC m c t) (acc.2.2.2 (ix2 g 0)) g) := by
  unfold bS bX bW bB bV bC at *
  exact (congrFun (middle_denom_eq m c t acc h0 h1) _).trans
    (Points.denom_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g ht)

/-- The middle point's largest gate. -/
theorem middle_top (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (ht : Doubling.Together (segs (bS m c t)) (word g)) :
    (stAt0 m c t.val t.isLt acc).2.2.2 (ix2 g 0)
      = top (bS m c t) (bX m c t) (bW m c t) (bB m c t) (bV m c t) (bC m c t) (acc.2.2.2 (ix2 g 0)) g := by
  unfold bS bX bW bB bV bC at *
  exact (congrFun (middle_top_eq m c t acc h0 h1) _).trans
    (Points.top_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g ht)

/-- The middle point's sums. -/
theorem middle_sum (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (d : Fin 256) (ht : Doubling.Together (segs (bS m c t)) (word g)) :
    (stAt0 m c t.val t.isLt acc).1 (ix2 g ⟨d.val, by omega⟩)
      = acc.1 (ix2 g ⟨d.val, by omega⟩) + ∑ r ∈ rows (bS m c t) g, bX m c t (ix2 r d) := by
  unfold bS bX at *
  exact (congrFun (middle_out_eq m c t acc h0 h1) _).trans
    (Points.sum_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g d ht)

/-- The middle point's maxima. -/
theorem middle_max (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (d : Fin 256) (ht : Doubling.Together (segs (bS m c t)) (word g)) :
    (stAt0 m c t.val t.isLt acc).1 (ix2 g ⟨256 + d.val, by omega⟩)
      = max (acc.1 (ix2 g ⟨256 + d.val, by omega⟩)) ((rows (bS m c t) g).sup fun r => bX m c t (ix2 r d)) := by
  unfold bS bX at *
  exact (congrFun (middle_out_eq m c t acc h0 h1) _).trans
    (Points.max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g d ht)

/-- The middle point's weighted sums. -/
theorem middle_weighted (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (g : Fin 512) (d : Fin 256) (ht : Doubling.Together (segs (bS m c t)) (word g)) :
    (stAt0 m c t.val t.isLt acc).1 (ix2 g ⟨512 + d.val, by omega⟩)
      = acc.1 (ix2 g ⟨512 + d.val, by omega⟩) * Scale.sc (acc.2.2.2 (ix2 g 0)) (top (bS m c t) (bX m c t) (bW m c t) (bB m c t) (bV m c t) (bC m c t) (acc.2.2.2 (ix2 g 0)) g)
        + ∑ r ∈ rows (bS m c t) g, Ideal.exp (gates (bX m c t) (bW m c t) (bB m c t) (bV m c t) (bC m c t) r - top (bS m c t) (bX m c t) (bW m c t) (bB m c t) (bV m c t) (bC m c t) (acc.2.2.2 (ix2 g 0)) g) * bX m c t (ix2 r d) := by
  unfold bS bX bW bB bV bC at *
  exact (congrFun (middle_out_eq m c t acc h0 h1) _).trans
    (Points.weighted_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.1 acc.2.2.1 acc.2.2.2 g d ht)

/-- What the last point leaves as the output, as the payload that it stores. -/
theorem last_out_eq (t : Fin cfg0.N) (acc : Vec Ideal S512x768 .f32 × Vec Ideal S512x1 .f32 × Vec Ideal S512x1 .f32 × Vec Ideal S512x1 .f32) (h0 : ¬t.val % 49 = 0) (h1 : t.val % 49 = 48) :
    (stAt0 m c t.val t.isLt acc).1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.1 acc.2.2.1 acc.2.2.2 := by
  rw [stAt0_C m c t acc h0 h1]

/-- The last point's sums. -/
theorem last_sum (t : Fin cfg0.N) (acc : Vec Ideal S512x768 .f32 × Vec Ideal S512x1 .f32 × Vec Ideal S512x1 .f32 × Vec Ideal S512x1 .f32) (h0 : ¬t.val % 49 = 0) (h1 : t.val % 49 = 48)
    (g : Fin 512) (d : Fin 256) (ht : Doubling.Together (segs (bS m c t)) (word g)) :
    (stAt0 m c t.val t.isLt acc).1 (ix2 g ⟨d.val, by omega⟩)
      = Ideal.div (acc.1 (ix2 g ⟨d.val, by omega⟩) + ∑ r ∈ rows (bS m c t) g, bX m c t (ix2 r d)) (max (acc.2.1 (ix2 g 0) + ∑ _r ∈ rows (bS m c t) g, (1 : EReal)) 1) := by
  unfold bS bX at *
  exact (congrFun (last_out_eq m c t acc h0 h1) _).trans
    (Points.sum_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.1 acc.2.2.1 acc.2.2.2 g d ht)

/-- The last point's maxima. -/
theorem last_max (t : Fin cfg0.N) (acc : Vec Ideal S512x768 .f32 × Vec Ideal S512x1 .f32 × Vec Ideal S512x1 .f32 × Vec Ideal S512x1 .f32) (h0 : ¬t.val % 49 = 0) (h1 : t.val % 49 = 48)
    (g : Fin 512) (d : Fin 256) (ht : Doubling.Together (segs (bS m c t)) (word g)) :
    (stAt0 m c t.val t.isLt acc).1 (ix2 g ⟨256 + d.val, by omega⟩)
      = if 0 < acc.2.1 (ix2 g 0) + ∑ _r ∈ rows (bS m c t) g, (1 : EReal) then max (acc.1 (ix2 g ⟨256 + d.val, by omega⟩)) ((rows (bS m c t) g).sup fun r => bX m c t (ix2 r d)) else 0 := by
  unfold bS bX at *
  exact (congrFun (last_out_eq m c t acc h0 h1) _).trans
    (Points.max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.1 acc.2.2.1 acc.2.2.2 g d ht)

/-- The last point's weighted sums. -/
theorem last_weighted (t : Fin cfg0.N) (acc : Vec Ideal S512x768 .f32 × Vec Ideal S512x1 .f32 × Vec Ideal S512x1 .f32 × Vec Ideal S512x1 .f32) (h0 : ¬t.val % 49 = 0) (h1 : t.val % 49 = 48)
    (g : Fin 512) (d : Fin 256) (ht : Doubling.Together (segs (bS m c t)) (word g)) :
    (stAt0 m c t.val t.isLt acc).1 (ix2 g ⟨512 + d.val, by omega⟩)
      = Ideal.div (acc.1 (ix2 g ⟨512 + d.val, by omega⟩) * Scale.sc (acc.2.2.2 (ix2 g 0)) (top (bS m c t) (bX m c t) (bW m c t) (bB m c t) (bV m c t) (bC m c t) (acc.2.2.2 (ix2 g 0)) g)
        + ∑ r ∈ rows (bS m c t) g, Ideal.exp (gates (bX m c t) (bW m c t) (bB m c t) (bV m c t) (bC m c t) r - top (bS m c t) (bX m c t) (bW m c t) (bB m c t) (bV m c t) (bC m c t) (acc.2.2.2 (ix2 g 0)) g) * bX m c t (ix2 r d))
        (acc.2.2.1 (ix2 g 0) * Scale.sc (acc.2.2.2 (ix2 g 0)) (top (bS m c t) (bX m c t) (bW m c t) (bB m c t) (bV m c t) (bC m c t) (acc.2.2.2 (ix2 g 0)) g)
        + ∑ r ∈ rows (bS m c t) g, Ideal.exp (gates (bX m c t) (bW m c t) (bB m c t) (bV m c t) (bC m c t) r - top (bS m c t) (bX m c t) (bW m c t) (bB m c t) (bV m c t) (bC m c t) (acc.2.2.2 (ix2 g 0)) g) + Ideal.ofBits .f32 0x24E69595#32) := by
  unfold bS bX bW bB bV bC at *
  exact (congrFun (last_out_eq m c t acc h0 h1) _).trans
    (Points.weighted_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.1 acc.2.2.1 acc.2.2.2 g d ht)

variable (hm : Sorted (words m c))

include hm in
/-- The first point leaves the state of the first block. -/
theorem first (t : Fin cfg0.N) (acc : Vec Ideal S512x768 .f32 × Vec Ideal S512x1 .f32 × Vec Ideal S512x1 .f32 × Vec Ideal S512x1 .f32) (h0 : t.val % 49 = 0) (h1 : ¬t.val % 49 = 48)
    (ht : t.val = 0) : After m c (1024 * (0 + 1)) (stAt0 m c t.val t.isLt acc) := by
  have hh := holds m c t
  have hx := feats_block m c t
  have hg := gates_block m c t
  obtain ⟨n, hn⟩ := t
  obtain rfl : n = 0 := ht
  set t : Fin cfg0.N := ⟨0, hn⟩
  constructor
  · exact fun g => Eq.trans (first_count m c t acc h0 h1 g (together (holds m c t) hm g))
      (step_count hh (sum_none m c (fun _ => 1) g))
  · exact fun g => Eq.trans (first_denom m c t acc h0 h1 g (together (holds m c t) hm g))
      (step_denom hh hg (sup_none m c (gt m c) g) (sum_none m c (fun i => Ideal.exp (gt m c i - best m c g (1024 * 0))) g))
  · exact fun g => Eq.trans (first_top m c t acc h0 h1 g (together (holds m c t) hm g))
      (step_top hh hg (sup_none m c (gt m c) g))
  · exact fun g d => Eq.trans (first_sum m c t acc h0 h1 g d (together (holds m c t) hm g))
      (step_sum hh hx d (sum_none m c (fun i => feats m c i d) g))
  · exact fun g d => Eq.trans (first_max m c t acc h0 h1 g d (together (holds m c t) hm g))
      (step_max hh hx d (sup_none m c (fun i => feats m c i d) g))
  · exact fun g d => Eq.trans (first_weighted m c t acc h0 h1 g d (together (holds m c t) hm g))
      (step_weighted hh hx hg d (sup_none m c (gt m c) g) (sum_none m c (fun i => Ideal.exp (gt m c i - best m c g (1024 * 0)) * feats m c i d) g))

include hm in
/-- A middle point adds its block to the state. -/
theorem middle (t : Fin cfg0.N) (acc : Vec Ideal S512x768 .f32 × Vec Ideal S512x1 .f32 × Vec Ideal S512x1 .f32 × Vec Ideal S512x1 .f32) (h0 : ¬t.val % 49 = 0) (h1 : ¬t.val % 49 = 48)
    (ha : After m c (1024 * t.val) acc) : After m c (1024 * (t.val + 1)) (stAt0 m c t.val t.isLt acc) := by
  have hh := holds m c t
  have hx := feats_block m c t
  have hg := gates_block m c t
  constructor
  · exact fun g => Eq.trans (middle_count m c t acc h0 h1 g (together (holds m c t) hm g))
      (step_count hh (ha.count g))
  · exact fun g => Eq.trans (middle_denom m c t acc h0 h1 g (together (holds m c t) hm g))
      (step_denom hh hg (ha.top g) (ha.denom g))
  · exact fun g => Eq.trans (middle_top m c t acc h0 h1 g (together (holds m c t) hm g))
      (step_top hh hg (ha.top g))
  · exact fun g d => Eq.trans (middle_sum m c t acc h0 h1 g d (together (holds m c t) hm g))
      (step_sum hh hx d (ha.sum g d))
  · exact fun g d => Eq.trans (middle_max m c t acc h0 h1 g d (together (holds m c t) hm g))
      (step_max hh hx d (ha.max g d))
  · exact fun g d => Eq.trans (middle_weighted m c t acc h0 h1 g d (together (holds m c t) hm g))
      (step_weighted hh hx hg d (ha.top g) (ha.weighted g d))

/-- The state after point `n`, for every point but the last. -/
theorem after_sweep (hm : Sorted (words m c)) : ∀ n : ℕ, ∀ hn : n < cfg0.N, n < 48 → After m c (1024 * (n + 1)) (outsAt0 m c n hn)
  | 0, hn, _ => by
    rw [outsAt0_zero]
    exact first m c hm ⟨0, hn⟩ _ (Nat.zero_mod _) (by show ¬0 % 49 = 48; decide) rfl
  | n + 1, hn, h => by
    rw [outsAt0_succ]
    refine middle m c hm ⟨n + 1, hn⟩ _ (by show ¬(n + 1) % 49 = 0; omega) (by show ¬(n + 1) % 49 = 48; omega) ?_
    exact after_sweep hm n _ (by omega)

/-- The state before the last point. -/
theorem before_last (hm : Sorted (words m c)) (t : Fin cfg0.N) (ht : t.val = 47 + 1) :
    After m c (1024 * t.val) (outsAt0 m c 47 (by have := t.isLt; omega)) := by
  rw [ht]
  exact after_sweep m c hm 47 _ (by omega)

/-- The last point. -/
abbrev tl : Fin cfg0.N := ⟨47 + 1, lt_of_lt_of_eq (by decide) N_0.symm⟩

/-- The output array is what the last point leaves, over the state of the first 48 blocks. -/
theorem output_eq : G6 m c = (stAt0 m c tl.val tl.isLt (outsAt0 m c 47 (lt_of_lt_of_eq (by decide) N_0.symm))).1 := by
  rw [G6_last, ← outsAt0_sweep m c 48 (lt_of_lt_of_eq (by decide) N_0.symm)]
  exact congrArg Prod.fst (outsAt0_succ m c 47 _)

/-- The rows of segment `g`. -/
abbrev mem (g : Fin 512) : Finset (Fin 50000) := members (words m c) g

include hm in
/-- The first 256 columns: each segment's sum over its count, the count taken at least 1. -/
theorem mean (g : Fin 512) (d : Fin 256) : (G6 m c : Vec Ideal S512x768 .f32) (ix2 g ⟨d.val, by omega⟩)
    = Ideal.div (∑ i ∈ mem m c g, feats m c i d) (max (∑ _i ∈ mem m c g, 1) 1) := by
  rw [output_eq]
  have hl : tl.val + 1 = 48 + 1 := rfl
  have ha := before_last m c hm tl rfl
  have hh := holds m c tl
  have hx := feats_block m c tl
  have hg := gates_block m c tl
  generalize outsAt0 m c 47 _ = acc at ha
  generalize tl = t at hl ha hh hx hg
  have h0 : ¬t.val % 49 = 0 := by omega
  have h1 : t.val % 49 = 48 := by omega
  refine Eq.trans (last_sum m c t acc h0 h1 g d (together (holds m c t) hm g)) ?_
  rw [step_sum hh hx d (ha.sum g d)]
  rw [step_count hh (ha.count g)]
  rw [hl, upto_last]

include hm in
/-- The next 256: each segment's maximum, 0 where the segment has no row. -/
theorem maximum (g : Fin 512) (d : Fin 256) : (G6 m c : Vec Ideal S512x768 .f32) (ix2 g ⟨256 + d.val, by omega⟩)
    = if 0 < ∑ _i ∈ mem m c g, (1 : EReal) then (mem m c g).sup fun i => feats m c i d else 0 := by
  rw [output_eq]
  have hl : tl.val + 1 = 48 + 1 := rfl
  have ha := before_last m c hm tl rfl
  have hh := holds m c tl
  have hx := feats_block m c tl
  have hg := gates_block m c tl
  generalize outsAt0 m c 47 _ = acc at ha
  generalize tl = t at hl ha hh hx hg
  have h0 : ¬t.val % 49 = 0 := by omega
  have h1 : t.val % 49 = 48 := by omega
  refine Eq.trans (last_max m c t acc h0 h1 g d (together (holds m c t) hm g)) ?_
  rw [step_count hh (ha.count g)]
  rw [step_max hh hx d (ha.max g d)]
  rw [hl, upto_last]

include hm in
/-- The last 256: each segment's weighted sum over its sum of weights. -/
theorem attention (g : Fin 512) (d : Fin 256) : (G6 m c : Vec Ideal S512x768 .f32) (ix2 g ⟨512 + d.val, by omega⟩)
    = Ideal.div (∑ i ∈ mem m c g, Ideal.exp (gt m c i - (mem m c g).sup (gt m c)) * feats m c i d)
      (∑ i ∈ mem m c g, Ideal.exp (gt m c i - (mem m c g).sup (gt m c)) + Ideal.ofBits .f32 0x24E69595#32) := by
  rw [output_eq]
  have hl : tl.val + 1 = 48 + 1 := rfl
  have ha := before_last m c hm tl rfl
  have hh := holds m c tl
  have hx := feats_block m c tl
  have hg := gates_block m c tl
  generalize outsAt0 m c 47 _ = acc at ha
  generalize tl = t at hl ha hh hx hg
  have h0 : ¬t.val % 49 = 0 := by omega
  have h1 : t.val % 49 = 48 := by omega
  refine Eq.trans (last_weighted m c t acc h0 h1 g d (together (holds m c t) hm g)) ?_
  rw [step_weighted hh hx hg d (ha.top g) (ha.weighted g d)]
  rw [step_denom hh hg (ha.top g) (ha.denom g)]
  rw [hl, upto_last]

end Cert.Sweep
-- ==== Proof.Scatter.lean ====
/-
  The reference's three indexed operations, read at an index: a sum of scattered scalars, a sum of scattered rows, and
  a lookup in a table of 512 entries.
-/
module

public import proofs.«01_k».proof.Proof.Block
public import proofs.«01_k».proof.Proof.Gen.ReferenceIdeal.Read
public import Idealize.ShloMosaic.Lib.Routing.OpsPair
public import Idealize.ShloMosaic.Lib.Routing.OpsSet

@[expose] public section

set_option maxRecDepth 16384

noncomputable section

namespace Cert.Scatter

open Idealize.ShloMosaic Cert.ReferenceIdeal Cert.ReferenceIdeal.Gen Cert.Block

/-- A word read signed is `g < 512` exactly when it is segment `g`'s word. -/
theorem toInt_word (w : BitVec 32) (g : Fin 512) : w.toInt = (g.val : Int) ↔ w = word g := by
  have hg := g.isLt
  have hw : (word g).toInt = (g.val : Int) := StableHlo.Predicate.toInt_ofNat_small _ (by omega)
  constructor
  · exact fun h => BitVec.eq_of_toInt_eq (h.trans hw.symm)
  · rintro rfl
    exact hw

/-- Scalar `i` lands at entry `g` exactly when its index is `g`'s word. -/
theorem lands_scalar (idx : IVec S50000x1 32) (i : Fin 50000) (g : Fin 512) :
    scatter_S512_S50000x1_S50000_n_0_0_1.resultIdx? (ix1 i) idx = some (ix1 g) ↔ idx (ix2 i 0) = word g := by
  rw [← toInt_word]
  refine (Routing.resultIdx?_ix1 _ (ix1 i) idx g).trans ?_
  have h0 : scatter_S512_S50000x1_S50000_n_0_0_1.window (ix1 i) 0 = 0 := rfl
  have h1 : scatter_S512_S50000x1_S50000_n_0_0_1.start (ix1 i) idx 0 = (idx (ix2 i 0)).toInt := by
    refine (dif_pos (show (0 : Fin 1) ∈ [(0 : Fin 1)] from List.mem_singleton.2 rfl)).trans ?_
    refine congrArg (fun q => (idx q).toInt) ?_
    funext b
    apply Fin.ext
    match b with
    | ⟨0, _⟩ => rfl
    | ⟨1, _⟩ => rfl
  rw [h0, h1]
  simp

/-- Entry `(i, k)` lands at `(g, d)` exactly when row `i`'s index is `g`'s word and `k = d`. -/
theorem lands_row (idx : IVec S50000x1 32) (i : Fin 50000) (k d : Fin 256) (g : Fin 512) :
    scatter_S512x256_S50000x1_S50000x256_1_0_0_1.resultIdx? (ix2 i k) idx = some (ix2 g d) ↔ idx (ix2 i 0) = word g ∧ k = d := by
  rw [← toInt_word]
  refine (Routing.resultIdx?_ix2 _ (ix2 i k) idx g d).trans ?_
  have h0 : scatter_S512x256_S50000x1_S50000x256_1_0_0_1.window (ix2 i k) 0 = 0 := rfl
  have h0' : scatter_S512x256_S50000x1_S50000x256_1_0_0_1.window (ix2 i k) 1 = k.val := rfl
  have h1' : scatter_S512x256_S50000x1_S50000x256_1_0_0_1.start (ix2 i k) idx 1 = 0 := rfl
  have h1 : scatter_S512x256_S50000x1_S50000x256_1_0_0_1.start (ix2 i k) idx 0 = (idx (ix2 i 0)).toInt := by
    refine (dif_pos (show (0 : Fin 2) ∈ [(0 : Fin 2)] from List.mem_singleton.2 rfl)).trans ?_
    refine congrArg (fun q => (idx q).toInt) ?_
    funext b
    apply Fin.ext
    match b with
    | ⟨0, _⟩ => rfl
    | ⟨1, _⟩ => rfl
  rw [h0, h1, h0', h1', Fin.ext_iff]
  simp

/-- The sum of scattered scalars at entry `g`. -/
theorem scatter_scalars (x : FVec Ideal S512 .f32) (idx : IVec S50000x1 32) (upd : FVec Ideal S50000 .f32) (g : Fin 512) :
    Host.scatterAdd (F := Ideal) scatter_S512_S50000x1_S50000_n_0_0_1 x idx upd (ix1 g)
      = x (ix1 g) + ∑ i ∈ Finset.univ.filter (fun i : Fin 50000 => idx (ix2 i 0) = word g), upd (ix1 i) := by
  unfold Host.scatterAdd
  rw [Ideal.hostScatterAdd_def]
  unfold Ideal.hostScatterAdd
  refine congrArg₂ (fun a b : EReal => a + b) rfl ?_
  refine (Finset.sum_bij (fun i _ => (ix1 i : S50000.Idx)) ?_ ?_ ?_ ?_).symm
  · intro i hi
    simp only [Finset.mem_filter, Finset.mem_univ, true_and] at hi ⊢
    exact (lands_scalar idx i g).mpr hi
  · exact fun a _ b _ h => congrFun h 0
  · intro j hj
    simp only [Finset.mem_filter, Finset.mem_univ, true_and] at hj
    rw [eq_ix1 j] at hj
    exact ⟨j 0, Finset.mem_filter.mpr ⟨Finset.mem_univ _, (lands_scalar idx (j 0) g).mp hj⟩, (eq_ix1 j).symm⟩
  · exact fun _ _ => rfl

/-- The sum of scattered rows at `(g, d)`. -/
theorem scatter_rows (x : FVec Ideal S512x256 .f32) (idx : IVec S50000x1 32) (upd : FVec Ideal S50000x256 .f32) (g : Fin 512) (d : Fin 256) :
    Host.scatterAdd (F := Ideal) scatter_S512x256_S50000x1_S50000x256_1_0_0_1 x idx upd (ix2 g d)
      = x (ix2 g d) + ∑ i ∈ Finset.univ.filter (fun i : Fin 50000 => idx (ix2 i 0) = word g), upd (ix2 i d) := by
  unfold Host.scatterAdd
  rw [Ideal.hostScatterAdd_def]
  unfold Ideal.hostScatterAdd
  refine congrArg₂ (fun a b : EReal => a + b) rfl ?_
  refine (Finset.sum_bij (fun i _ => (ix2 i d : S50000x256.Idx)) ?_ ?_ ?_ ?_).symm
  · intro i hi
    simp only [Finset.mem_filter, Finset.mem_univ, true_and] at hi ⊢
    exact (lands_row idx i d d g).mpr ⟨hi, rfl⟩
  · exact fun a _ b _ h => congrFun h 0
  · intro j hj
    simp only [Finset.mem_filter, Finset.mem_univ, true_and] at hj
    rw [eq_ix2 j] at hj
    obtain ⟨h, e⟩ := (lands_row idx (j 0) (j 1) d g).mp hj
    refine ⟨j 0, Finset.mem_filter.mpr ⟨Finset.mem_univ _, h⟩, ?_⟩
    rw [← e]
    exact (eq_ix2 j).symm
  · exact fun _ _ => rfl

/-- A lookup at segment `g`'s word. -/
theorem lookup {α : Type} (x : S512.Idx → α) (idx : IVec S50000x1 32) (i : Fin 50000) (g : Fin 512) (h : idx (ix2 i 0) = word g) :
    Host.gather gather_S512_S50000x1_S50000_n_0_n_n_0_1_1 x idx (ix1 i) = x (ix1 g) :=
  Routing.gather_take1 gather_S512_S50000x1_S50000_n_0_n_n_0_1_1 rfl rfl rfl rfl x idx i g h (by decide)

end Cert.Scatter
-- ==== Proof.Reference.lean ====
/-
  What the reference computes, read at an index: each segment's mean, maximum and attention-weighted sum of the features
  over the rows whose word is the segment's.
-/
module

public import proofs.«01_k».proof.Proof.Scatter
public import proofs.«01_k».proof.Proof.Segments
public import Idealize.ShloMosaic.Lib.Pointwise
public import Idealize.ShloMosaic.Lib.Routing.OpsPair
public import Idealize.ShloMosaic.Lib.Tactic.CleanTypes

@[expose] public section

set_option maxRecDepth 16384

noncomputable section

namespace Cert.Reference

open Idealize.ShloMosaic Cert.ReferenceIdeal Cert.ReferenceIdeal.Gen Cert.ReferenceIdeal.Read Cert.Block Cert.Segments

variable (x0 : Vec Ideal S50000x256 .f32) (x1 : Vec Ideal S50000 .i32) (x2 : Vec Ideal S256x256 .f32) (x3 : Vec Ideal S256 .f32)
  (x4 : Vec Ideal S256x1 .f32) (x5 : Vec Ideal S1 .f32)

/-- The rows whose word is segment `g`'s. -/
abbrev mem (g : Fin 512) : Finset (Fin 50000) := members (fun i => x1 (ix1 i)) g

/-- The constant the maxima start from is `⊥`. -/
theorem neg_inf : Ideal.ofBits .f32 0xFF800000#32 = (⊥ : EReal) := by
  show Ideal.ieee 8 23 (0xFF800000#32) = _
  have h1 : (BitVec.extractLsb' 23 8 (0xFF800000#32)).toNat = 255 := by decide
  have h2 : (BitVec.extractLsb' 0 23 (0xFF800000#32)).toNat = 0 := by decide
  have h3 : (BitVec.extractLsb' (8 + 23) 1 (0xFF800000#32) == 1#1) = true := by decide
  unfold Ideal.ieee
  simp [h1, h2, h3]

/-- The word at a place of the column of words. -/
theorem column (h : S50000.BroadcastsInDim S50000x1 (![0] : Fin 1 → Fin S50000x1.rank)) (i : Fin 50000) :
    broadcastInDim S50000x1 ![0] h x1 (ix2 i 0) = x1 (ix1 i) := by
  pointwise

/-- A sum over the rows with a segment's word in the column is one over the segment's rows. -/
theorem sum_column (h : S50000.BroadcastsInDim S50000x1 (![0] : Fin 1 → Fin S50000x1.rank)) (g : Fin 512) (f f' : Fin 50000 → EReal)
    (hf : ∀ i, i ∈ mem x1 g → f i = f' i) :
    ∑ i ∈ Finset.univ.filter (fun i : Fin 50000 => broadcastInDim S50000x1 ![0] h x1 (ix2 i 0) = word g), f i = ∑ i ∈ mem x1 g, f' i := by
  refine Finset.sum_congr (Finset.filter_congr fun i _ => ?_) hf
  rw [column]

/-- A maximum of values masked to a segment, from `⊥`, is the maximum over the segment's rows. -/
theorem fold_mask (f : Fin 50000 → EReal) (g : Fin 512) :
    Finset.fold max (⊥ : EReal) (fun i => Scalar.select (IntOp.cmpi CmpIPredicate.eq (x1 (ix1 i)) (BitVec.ofNat 32 g.val)) (f i) ⊥) Finset.univ
      = (mem x1 g).sup f := by
  show Finset.univ.sup (fun i => Scalar.select (IntOp.cmpi CmpIPredicate.eq (x1 (ix1 i)) (BitVec.ofNat 32 g.val)) (f i) ⊥) = _
  apply le_antisymm
  · refine Finset.sup_le fun i _ => ?_
    by_cases h : x1 (ix1 i) = word g
    · refine le_trans (le_of_eq ?_) (Finset.le_sup (f := f) (Finset.mem_filter.mpr ⟨Finset.mem_univ i, h⟩))
      rw [show x1 (ix1 i) = BitVec.ofNat 32 g.val from h]
      simp [Scalar.select, IntOp.cmpi]
    · have : Scalar.select (IntOp.cmpi CmpIPredicate.eq (x1 (ix1 i)) (BitVec.ofNat 32 g.val)) (f i) ⊥ = ⊥ := by
        have hb : (x1 (ix1 i) == BitVec.ofNat 32 g.val) = false := beq_eq_false_iff_ne.mpr h
        simp [Scalar.select, IntOp.cmpi, hb]
      rw [this]
      exact bot_le
  · refine Finset.sup_le fun i hi => ?_
    have h : x1 (ix1 i) = BitVec.ofNat 32 g.val := (Finset.mem_filter.mp hi).2
    refine le_trans (le_of_eq ?_) (Finset.le_sup (Finset.mem_univ i))
    rw [h]
    simp [Scalar.select, IntOp.cmpi]

/-- The constant that stands for an empty segment is 0. -/
theorem zero_const : (id (constant (F := Ideal) S_ FTy.f32 0#32) ix0 : EReal) = 0 := by
  show (constant (F := Ideal) S_ FTy.f32 0#32) ix0 = _
  pointwise

/-- The reference's counts. -/
theorem count_apply (g : Fin 512) : val_main_v9 (F := Ideal) x1 (ix1 g) = ∑ _i ∈ mem x1 g, (1 : EReal) := by
  have h0 : val_main_v7 (F := Ideal) (ix1 g) = (0 : EReal) := by
    unfold val_main_v7 val_main_cst_0
    pointwise
  have h1 : ∀ i : Fin 50000, val_main_v6 (F := Ideal) (ix1 i) = (1 : EReal) := fun i => by
    unfold val_main_v6 val_main_cst
    pointwise
  unfold val_main_v9 val_main_v8
  rw [Scatter.scatter_scalars, h0, zero_add]
  exact sum_column x1 _ g _ _ fun i _ => h1 i

/-- The reference's sums. -/
theorem sum_apply (g : Fin 512) (d : Fin 256) : val_main_v12 (F := Ideal) x0 x1 (ix2 g d) = ∑ i ∈ mem x1 g, x0 (ix2 i d) := by
  have h0 : val_main_v10 (F := Ideal) (ix2 g d) = (0 : EReal) := by
    unfold val_main_v10 val_main_cst_1
    pointwise
  unfold val_main_v12 val_main_v11
  rw [Scatter.scatter_rows, h0, zero_add]
  exact sum_column x1 _ g _ _ fun i _ => rfl

/-- The reference's means. -/
theorem mean_apply (g : Fin 512) (d : Fin 256) : val_main_v17 (F := Ideal) x0 x1 (ix2 g d)
    = Ideal.div (∑ i ∈ mem x1 g, x0 (ix2 i d)) (max (∑ _i ∈ mem x1 g, (1 : EReal)) 1) := by
  rw [← sum_apply, ← count_apply]
  unfold val_main_v17 val_main_v16 val_main_v15 val_main_v14 val_main_v13 val_main_cst_2
  generalize val_main_v12 (F := Ideal) x0 x1 = a
  generalize val_main_v9 (F := Ideal) x1 = b
  pointwise

/-- The reference's maxima, `⊥` where a segment has no row. -/
theorem max_apply (g : Fin 512) (d : Fin 256) : val_main_v21 (F := Ideal) x0 x1 (ix2 g d) = (mem x1 g).sup fun i => x0 (ix2 i d) := by
  rw [← fold_mask]
  unfold val_main_v21 val_main_v20 val_main_call0_v1 val_main_call0_v2 val_main_call0_v3 val_main_v19 val_main_v18 val_main_v5
    val_main_v4 val_main_v3 val_main_v2 val_main_v1 val_main_v0 val_main_call0_v0 val_main_cst_3 val_main_cst_4
  pointwise
  rw [neg_inf, show (id (constant (F := Ideal) S_ FTy.f32 4286578688#32) ix0 : EReal) = ⊥ from neg_inf]

/-- The reference's maxima, 0 where a segment has no row. -/
theorem maximum_apply (g : Fin 512) (d : Fin 256) : val_main_v25 (F := Ideal) x0 x1 (ix2 g d)
    = if 0 < ∑ _i ∈ mem x1 g, (1 : EReal) then (mem x1 g).sup fun i => x0 (ix2 i d) else 0 := by
  rw [← max_apply, ← count_apply]
  unfold val_main_v25 val_main_call1_v1 val_main_call1_v2 val_main_call1_v0 val_main_v24 val_main_v23 val_main_v22 val_main_cst_5 val_main_cst_6
  generalize val_main_v21 (F := Ideal) x0 x1 = a
  generalize val_main_v9 (F := Ideal) x1 = b
  pointwise
  rw [zero_const]

/-- The gate of row `i`. -/
abbrev gt (i : Fin 50000) : EReal :=
  Readout.gate (fun l => x0 (ix2 i l)) (fun l k => x2 (ix2 l k)) (fun k => x3 (ix1 k)) (fun k => x4 (ix2 k 0)) (x5 (ix1 0))

/-- The reference's gates. -/
theorem gate_apply (i : Fin 50000) : val_main_v41 (F := Ideal) x0 x2 x3 x4 x5 (ix1 i) = gt x0 x2 x3 x4 x5 i := by
  unfold val_main_v41 val_main_v40 val_main_v39 val_main_v38 val_main_v37 val_main_v36 val_main_v35 val_main_v34 val_main_v33
    val_main_v32 val_main_v31 val_main_v30 val_main_v29 val_main_v28 val_main_v27 val_main_v26 val_main_cst_7 val_main_cst_8
  pointwise
  rfl

/-- The reference's largest gates, `⊥` where a segment has no row. -/
theorem best_apply (g : Fin 512) : val_main_v44 (F := Ideal) x0 x1 x2 x3 x4 x5 (ix1 g) = (mem x1 g).sup (gt x0 x2 x3 x4 x5) := by
  rw [← fold_mask, ← funext (gate_apply x0 x2 x3 x4 x5)]
  unfold val_main_v44 val_main_v43 val_main_call2_v1 val_main_call2_v2 val_main_call2_v0 val_main_v42 val_main_v5
    val_main_v4 val_main_v3 val_main_v2 val_main_v1 val_main_v0 val_main_cst_9 val_main_cst_10
  generalize val_main_v41 (F := Ideal) x0 x2 x3 x4 x5 = a
  pointwise
  rw [neg_inf, show (id (constant (F := Ideal) S_ FTy.f32 4286578688#32) ix0 : EReal) = ⊥ from neg_inf]

/-- A segment with a row has a positive count. -/
theorem count_pos {g : Fin 512} {i : Fin 50000} (h : i ∈ mem x1 g) : (0 : EReal) < ∑ _i ∈ mem x1 g, (1 : EReal) := by
  refine lt_of_lt_of_le zero_lt_one ?_
  exact Finset.single_le_sum (f := fun _ => (1 : EReal)) (fun _ _ => zero_le_one) h

/-- The largest gates with the replacement of empty segments. -/
theorem shift_apply (g : Fin 512) : val_main_v47 (F := Ideal) x0 x1 x2 x3 x4 x5 (ix1 g)
    = if 0 < ∑ _i ∈ mem x1 g, (1 : EReal) then (mem x1 g).sup (gt x0 x2 x3 x4 x5) else 0 := by
  rw [← best_apply, ← count_apply]
  unfold val_main_v47 val_main_v46 val_main_v45 val_main_cst_11 val_main_call3_v1 val_main_call3_v0 val_main_cst_12
  generalize val_main_v44 (F := Ideal) x0 x1 x2 x3 x4 x5 = a
  generalize val_main_v9 (F := Ideal) x1 = b
  pointwise
  rw [zero_const]

/-- The wrap of a negative index leaves a segment's word as it is. -/
theorem wrap_word (a : BitVec 32) (g : Fin 512) : Scalar.select (IntOp.cmpi .slt (word g) 0#32) a (word g) = word g := by
  refine Routing.wrap_of_lt (word g) a ?_
  rw [BitVec.toNat_ofNat, Nat.mod_eq_of_lt (by omega)]
  omega

/-- The index of the first look-up at a row of segment `g`. -/
theorem index_apply (g : Fin 512) (i : Fin 50000) (h : x1 (ix1 i) = word g) : val_main_v53 (F := Ideal) x1 (ix2 i 0) = word g := by
  have e : val_main_v53 (F := Ideal) x1 (ix2 i 0)
      = Scalar.select (IntOp.cmpi .slt (x1 (ix1 i)) 0#32) (IntOp.addi (x1 (ix1 i)) 512#32) (x1 (ix1 i)) := by
    unfold val_main_v53 val_main_v52 val_main_v51 val_main_v50 val_main_v49 val_main_v48 val_main_c val_main_c_13
    pointwise
  rw [e, h, wrap_word]

/-- The index of the second look-up at a row of segment `g`. -/
theorem index_apply' (g : Fin 512) (i : Fin 50000) (h : x1 (ix1 i) = word g) : val_main_v65 (F := Ideal) x1 (ix2 i 0) = word g := by
  have e : val_main_v65 (F := Ideal) x1 (ix2 i 0)
      = Scalar.select (IntOp.cmpi .slt (x1 (ix1 i)) 0#32) (IntOp.addi (x1 (ix1 i)) 512#32) (x1 (ix1 i)) := by
    unfold val_main_v65 val_main_v64 val_main_v63 val_main_v62 val_main_v61 val_main_v60 val_main_c_15 val_main_c_16
    pointwise
  rw [e, h, wrap_word]

/-- The exponential of a row of segment `g`: of its gate less the segment's largest. -/
theorem weight_apply (g : Fin 512) (i : Fin 50000) (h : i ∈ mem x1 g) : val_main_v56 (F := Ideal) x0 x1 x2 x3 x4 x5 (ix1 i)
    = Ideal.exp (gt x0 x2 x3 x4 x5 i - (mem x1 g).sup (gt x0 x2 x3 x4 x5)) := by
  have hi : x1 (ix1 i) = word g := (Finset.mem_filter.mp h).2
  have e : val_main_v54 (F := Ideal) x0 x1 x2 x3 x4 x5 (ix1 i) = (mem x1 g).sup (gt x0 x2 x3 x4 x5) := by
    unfold val_main_v54
    rw [Scatter.lookup _ _ i g (index_apply x1 g i hi), shift_apply, if_pos (count_pos x1 h)]
  rw [← e, ← gate_apply]
  rfl

/-- The sum of a segment's exponentials. -/
theorem denom_apply (g : Fin 512) : val_main_v59 (F := Ideal) x0 x1 x2 x3 x4 x5 (ix1 g)
    = ∑ i ∈ mem x1 g, Ideal.exp (gt x0 x2 x3 x4 x5 i - (mem x1 g).sup (gt x0 x2 x3 x4 x5)) := by
  have h0 : val_main_v57 (F := Ideal) (ix1 g) = (0 : EReal) := by
    unfold val_main_v57 val_main_cst_14
    pointwise
  unfold val_main_v59 val_main_v58
  rw [Scatter.scatter_scalars, h0, zero_add]
  exact sum_column x1 _ g _ _ fun i hi => weight_apply x0 x1 x2 x3 x4 x5 g i hi

/-- The attention weight of a row of segment `g`. -/
theorem share_apply (g : Fin 512) (i : Fin 50000) (h : i ∈ mem x1 g) : val_main_v69 (F := Ideal) x0 x1 x2 x3 x4 x5 (ix1 i)
    = Ideal.div (Ideal.exp (gt x0 x2 x3 x4 x5 i - (mem x1 g).sup (gt x0 x2 x3 x4 x5)))
      (∑ i ∈ mem x1 g, Ideal.exp (gt x0 x2 x3 x4 x5 i - (mem x1 g).sup (gt x0 x2 x3 x4 x5)) + Ideal.ofBits .f32 0x24E69595#32) := by
  have hi : x1 (ix1 i) = word g := (Finset.mem_filter.mp h).2
  have e : val_main_v66 (F := Ideal) x0 x1 x2 x3 x4 x5 (ix1 i) = val_main_v59 (F := Ideal) x0 x1 x2 x3 x4 x5 (ix1 g) := by
    unfold val_main_v66
    rw [Scatter.lookup _ _ i g (index_apply' x1 g i hi)]
  have e' : val_main_v67 (F := Ideal) (ix1 i) = Ideal.ofBits .f32 0x24E69595#32 := by
    unfold val_main_v67 val_main_cst_17
    pointwise
  have e'' : val_main_v69 (F := Ideal) x0 x1 x2 x3 x4 x5 (ix1 i) = Ideal.div (val_main_v56 (F := Ideal) x0 x1 x2 x3 x4 x5 (ix1 i))
      (val_main_v66 (F := Ideal) x0 x1 x2 x3 x4 x5 (ix1 i) + val_main_v67 (F := Ideal) (ix1 i)) := by
    unfold val_main_v69 val_main_v68
    generalize val_main_v56 (F := Ideal) x0 x1 x2 x3 x4 x5 = a
    generalize val_main_v66 (F := Ideal) x0 x1 x2 x3 x4 x5 = b
    generalize val_main_v67 (F := Ideal) = k
    pointwise
  rw [e'', e, e', denom_apply, weight_apply x0 x1 x2 x3 x4 x5 g i h]

/-- The reference's attention-weighted sums. -/
theorem attention_apply (g : Fin 512) (d : Fin 256) : val_main_v75 (F := Ideal) x0 x1 x2 x3 x4 x5 (ix2 g d)
    = ∑ i ∈ mem x1 g, Ideal.div (Ideal.exp (gt x0 x2 x3 x4 x5 i - (mem x1 g).sup (gt x0 x2 x3 x4 x5)))
      (∑ i ∈ mem x1 g, Ideal.exp (gt x0 x2 x3 x4 x5 i - (mem x1 g).sup (gt x0 x2 x3 x4 x5)) + Ideal.ofBits .f32 0x24E69595#32)
        * x0 (ix2 i d) := by
  have h0 : val_main_v73 (F := Ideal) (ix2 g d) = (0 : EReal) := by
    unfold val_main_v73 val_main_cst_18
    pointwise
  have h1 : ∀ i : Fin 50000, val_main_v72 (F := Ideal) x0 x1 x2 x3 x4 x5 (ix2 i d)
      = val_main_v69 (F := Ideal) x0 x1 x2 x3 x4 x5 (ix1 i) * x0 (ix2 i d) := fun i => by
    unfold val_main_v72 val_main_v71 val_main_v70
    generalize val_main_v69 (F := Ideal) x0 x1 x2 x3 x4 x5 = a
    pointwise
  unfold val_main_v75 val_main_v74
  rw [Scatter.scatter_rows, h0, zero_add]
  exact sum_column x1 _ g _ _ fun i hi => by rw [h1, share_apply x0 x1 x2 x3 x4 x5 g i hi]

/-- The first 256 columns of the result are the means. -/
theorem result_mean (g : Fin 512) (d : Fin 256) : val_main_v76 (F := Ideal) x0 x1 x2 x3 x4 x5 (ix2 g ⟨d.val, by omega⟩)
    = val_main_v17 (F := Ideal) x0 x1 (ix2 g d) := by
  unfold val_main_v76
  generalize val_main_v17 (F := Ideal) x0 x1 = a
  generalize val_main_v25 (F := Ideal) x0 x1 = b
  generalize val_main_v75 (F := Ideal) x0 x1 x2 x3 x4 x5 = e
  pointwise

/-- The next 256 columns are the maxima. -/
theorem result_maximum (g : Fin 512) (d : Fin 256) : val_main_v76 (F := Ideal) x0 x1 x2 x3 x4 x5 (ix2 g ⟨256 + d.val, by omega⟩)
    = val_main_v25 (F := Ideal) x0 x1 (ix2 g d) := by
  unfold val_main_v76
  generalize val_main_v17 (F := Ideal) x0 x1 = a
  generalize val_main_v25 (F := Ideal) x0 x1 = b
  generalize val_main_v75 (F := Ideal) x0 x1 x2 x3 x4 x5 = e
  pointwise

/-- The last 256 columns are the attention-weighted sums. -/
theorem result_attention (g : Fin 512) (d : Fin 256) : val_main_v76 (F := Ideal) x0 x1 x2 x3 x4 x5 (ix2 g ⟨512 + d.val, by omega⟩)
    = val_main_v75 (F := Ideal) x0 x1 x2 x3 x4 x5 (ix2 g d) := by
  unfold val_main_v76
  generalize val_main_v17 (F := Ideal) x0 x1 = a
  generalize val_main_v25 (F := Ideal) x0 x1 = b
  generalize val_main_v75 (F := Ideal) x0 x1 x2 x3 x4 x5 = e
  pointwise
  rw [dif_neg (by omega), dif_neg (by omega)]
  exact congrArg e (congrArg (ix2 g) (Fin.ext (by show 512 + d.val - 256 - 256 = d.val; omega)))

end Cert.Reference
-- ==== Proof.Equation.lean ====
/-
  The kernel's output array is the reference's result: both are each segment's mean, maximum and attention-weighted sum.
-/
module

public import proofs.«01_k».proof.Defs
public import proofs.«01_k».proof.Proof.Sweep
public import proofs.«01_k».proof.Proof.Reference
public import proofs.«01_k».proof.Proof.Gen.Pre_sorted_index

@[expose] public section

set_option maxRecDepth 16384

noncomputable section

namespace Cert.Equation

open Idealize.ShloMosaic Idealize.SL.Sem Cert.KernelIdeal Cert.Segments

/-- Words that rise from each row to the next rise along all the rows. -/
theorem sorted_of_next (s : Fin 50000 → BitVec 32)
    (h : ∀ k : Fin 49999, (s ⟨k.val, by omega⟩).toInt ≤ (s ⟨1 + k.val, by omega⟩).toInt) : Sorted s := by
  have key : ∀ n : ℕ, ∀ a : ℕ, ∀ hn : a + n < 50000, (s ⟨a, by omega⟩).toInt ≤ (s ⟨a + n, hn⟩).toInt := by
    intro n
    induction n with
    | zero => exact fun a _ => le_refl _
    | succ n ih =>
      intro a hn
      refine (ih a (by omega)).trans ((h ⟨a + n, by omega⟩).trans (le_of_eq ?_))
      exact congrArg (fun i => (s i).toInt) (Fin.ext (by show 1 + (a + n) = a + (n + 1); omega))
  intro a b hab
  have hab' : a.val ≤ b.val := hab
  refine (key (b.val - a.val) a.val (by omega)).trans (le_of_eq ?_)
  exact congrArg (fun i => (s i).toInt) (Fin.ext (by show a.val + (b.val - a.val) = b.val; omega))

/-- The comparison of each word with the one before it, read at a row. -/
theorem next_of_pre (x0 : FVec Ideal Pre_sorted_index.S50000x256 .f32) (x1 : IVec Pre_sorted_index.S50000 32)
    (x2 : FVec Ideal Pre_sorted_index.S256x256 .f32) (x3 : FVec Ideal Pre_sorted_index.S256 .f32)
    (x4 : FVec Ideal Pre_sorted_index.S256x1 .f32) (x5 : FVec Ideal Pre_sorted_index.S1 .f32)
    (h : Pre_sorted_index.fn (F := Ideal) x0 x1 x2 x3 x4 x5 = fun _ => 1#1) (k : Fin 49999) :
    (x1 (ix1 ⟨k.val, by omega⟩)).toInt ≤ (x1 (ix1 ⟨1 + k.val, by omega⟩)).toInt := by
  have hk := congrFun h (ix1 k)
  unfold Pre_sorted_index.fn at hk
  have e : IntOp.cmpi .sge (x1 (ix1 ⟨1 + k.val, by omega⟩)) (x1 (ix1 ⟨k.val, by omega⟩)) = 1#1 := by
    rw [← hk]
    pointwise
  by_contra hc
  simp [IntOp.cmpi, BitVec.sle, hc] at e

/-- The precondition says that the segment words rise. -/
theorem sorted_of_pre (m : (ℓ : Loc nD τ sig) → Buf (Elt Ideal) ℓ) (c : Dev nD) (h : Pre_KernelIdeal_sorted_index m) :
    Sorted (Sweep.words m c) :=
  sorted_of_next _ fun k => next_of_pre _ _ _ _ _ _ (h c) k

/-- The kernel's output array is the reference's result on the same arguments. -/
theorem output_eq_result (m : (ℓ : Loc nD τ sig) → Buf (Elt Ideal) ℓ) (c : Dev nD) (hm : Sorted (Sweep.words m c)) :
    (Value.G6 m c : Vec Ideal S512x768 .f32) = ReferenceIdeal.Read.val_main_v76 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext y
  obtain ⟨g, k, rfl⟩ : ∃ (g : Fin 512) (k : Fin 768), y = ix2 g k := ⟨y 0, y 1, eq_ix2 y⟩
  by_cases h1 : k.val < 256
  · obtain ⟨d, hd⟩ : ∃ d : Fin 256, k = ⟨d.val, by omega⟩ := ⟨⟨k.val, h1⟩, rfl⟩
    rw [hd, Sweep.mean m c hm g d, Reference.result_mean, Reference.mean_apply]
    rfl
  · by_cases h2 : k.val < 512
    · obtain ⟨d, hd⟩ : ∃ d : Fin 256, k = ⟨256 + d.val, by omega⟩ :=
        ⟨⟨k.val - 256, by omega⟩, Fin.ext (by show k.val = 256 + (k.val - 256); omega)⟩
      rw [hd, Sweep.maximum m c hm g d, Reference.result_maximum, Reference.maximum_apply]
      rfl
    · obtain ⟨d, hd⟩ : ∃ d : Fin 256, k = ⟨512 + d.val, by omega⟩ :=
        ⟨⟨k.val - 512, by omega⟩, Fin.ext (by show k.val = 512 + (k.val - 512); omega)⟩
      rw [hd, Sweep.attention m c hm g d, Reference.result_attention, Reference.attention_apply, Scale.div_weights]
      rfl

end Cert.Equation
-- ==== Proof.lean ====
/-
  The proof of `Cert.Claim`: the kernel, its idealization and the reference run to the end with their arguments unchanged
  and every semaphore counter at zero; the idealization is the kernel with one constant named; and, where the segment words
  rise, the idealization and the reference end with equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_index
public import proofs.«01_k».proof.Proof.Equation
public import Idealize.ShloMosaic.Adequacy
public import Idealize.ShloMosaic.Init

@[expose] public section

noncomputable section

namespace Cert.Proof

open Idealize.ShloMosaic Idealize.SL.Sem

/-- The kernel runs, its arguments end unchanged, and every counter ends at zero. -/
theorem frame_kernel : Cert.quiescent_Kernel := fun m ρ _ => Cert.Kernel.Gen.frame m ρ

/-- The same of the idealization. -/
theorem frame_ideal : Cert.quiescent_KernelIdeal := fun m ρ _ => Cert.KernelIdeal.Gen.frame m ρ

/-- The same of the idealization on rising words. -/
theorem frame_ideal_sorted : Cert.quiescent_KernelIdeal_pre_sorted_index := fun m ρ _ => Cert.KernelIdeal.Gen.frame m ρ

/-- The same of the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same of the reference on rising words. -/
theorem frame_reference_sorted : Cert.quiescent_ReferenceIdeal_pre_sorted_index := fun m ρ _ => frame_reference m ρ trivial

/-- The idealization names the one constant, -1e30, as `⊥`. -/
theorem preserves : Cert.preserves_Kernel_KernelIdeal :=
  IdealRules.named_const.statement Cert.KernelIdeal.κ "neg" .f32 0xF149F2CA#32 ⊥ rfl

/-- On rising segment words the idealization and the reference end with equal results: the kernel's output array. -/
theorem algebraic : Cert.algebraic_KernelIdeal_ReferenceIdeal_pre_sorted_index := by
  intro m ρ m' ρ' hp ha
  refine ⟨fun c => Cert.KernelIdeal.Value.G6 m c, Cert.KernelIdeal.Value.run (F := Ideal) m ρ, ?_⟩
  refine (θ_run Cert.ReferenceIdeal.defs _ _).mono (fun r h c => ⟨?_, (h c).2⟩) (Cert.ReferenceIdeal.Value.run (F := Ideal) m' ρ')
  obtain ⟨h0, h1, h2, h3, h4, h5⟩ := ha c
  rw [(h c).1, Cert.ReferenceIdeal.Read.val_main_v76_eq, h0, h1, h2, h3, h4, h5]
  exact (Cert.Equation.output_eq_result m c (Cert.Equation.sorted_of_pre m c hp)).symm

/-- Everything claimed, with the side conditions the programs state. -/
theorem claim : Cert.Claim :=
  ⟨Cert.Kernel.Gen.facts, Cert.KernelIdeal.Gen.facts, Cert.ReferenceIdeal.Gen.facts, Cert.Pre_sorted_index.Gen.facts,
    frame_kernel, frame_ideal, frame_ideal_sorted, frame_reference, frame_reference_sorted, preserves, algebraic⟩

end Cert.Proof

end
